-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x2048 : Shape := ⟨3, ![64, 1, 2048]⟩
abbrev S2048x4 : Shape := ⟨2, ![2048, 4]⟩
abbrev S4x2048x2816 : Shape := ⟨3, ![4, 2048, 2816]⟩
abbrev S4x2816 : Shape := ⟨2, ![4, 2816]⟩
abbrev S4x1408x2048 : Shape := ⟨3, ![4, 1408, 2048]⟩
abbrev S4x2048 : Shape := ⟨2, ![4, 2048]⟩
abbrev S64x2048 : Shape := ⟨2, ![64, 2048]⟩
abbrev S4x1408x2176 : Shape := ⟨3, ![4, 1408, 2176]⟩
abbrev S4x64x1408 : Shape := ⟨3, ![4, 64, 1408]⟩
abbrev S_ : Shape := ⟨0, ![]⟩
abbrev S3 : Shape := ⟨1, ![3]⟩
abbrev S1 : Shape := ⟨1, ![1]⟩
abbrev S2x2048x2816 : Shape := ⟨3, ![2, 2048, 2816]⟩
abbrev S1x2048x2816 : Shape := ⟨3, ![1, 2048, 2816]⟩
abbrev S64 : Shape := ⟨1, ![64]⟩
abbrev S64x1 : Shape := ⟨2, ![64, 1]⟩
abbrev S64x4 : Shape := ⟨2, ![64, 4]⟩
abbrev S1x1408x2048 : Shape := ⟨3, ![1, 1408, 2048]⟩
abbrev S1408x2048 : Shape := ⟨2, ![1408, 2048]⟩
abbrev S2048x2816 : Shape := ⟨2, ![2048, 2816]⟩
abbrev S64x2816 : Shape := ⟨2, ![64, 2816]⟩
abbrev S1x2816 : Shape := ⟨2, ![1, 2816]⟩
abbrev S64x1408 : Shape := ⟨2, ![64, 1408]⟩
abbrev S1x64x1408 : Shape := ⟨3, ![1, 64, 1408]⟩
abbrev S1x1408x1024 : Shape := ⟨3, ![1, 1408, 1024]⟩
abbrev S1408x1024 : Shape := ⟨2, ![1408, 1024]⟩
abbrev S1x2048 : Shape := ⟨2, ![1, 2048]⟩
abbrev S64x1024 : Shape := ⟨2, ![64, 1024]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S64x1x2048, .bf16⟩
  | .hbm, ⟨1, _⟩ => ⟨S2048x4, .f32⟩
  | .hbm, ⟨2, _⟩ => ⟨S4x2048x2816, .fp8e4m3⟩
  | .hbm, ⟨3, _⟩ => ⟨S4x2816, .f32⟩
  | .hbm, ⟨4, _⟩ => ⟨S4x1408x2048, .fp8e4m3⟩
  | .hbm, ⟨5, _⟩ => ⟨S4x2048, .f32⟩
  | .hbm, ⟨6, _⟩ => ⟨S64x2048, .bf16⟩
  | .hbm, ⟨7, _⟩ => ⟨S4x2048, .f32⟩
  | .hbm, ⟨8, _⟩ => ⟨S64x2048, .bf16⟩
  | .local _ .vmem, ⟨0, _⟩ => ⟨S64x2048, .bf16⟩
  | .local _ .vmem, ⟨1, _⟩ => ⟨S4x2048, .f32⟩
  | .local _ .vmem, ⟨2, _⟩ => ⟨S4x2816, .f32⟩
  | .local _ .vmem, ⟨3, _⟩ => ⟨S4x2048, .f32⟩
  | .local _ .vmem, ⟨4, _⟩ => ⟨S4x2048x2816, .fp8e4m3⟩
  | .local _ .vmem, ⟨5, _⟩ => ⟨S4x1408x2176, .fp8e4m3⟩
  | .local _ .vmem, ⟨6, _⟩ => ⟨S64x2048, .fp8e4m3⟩
  | .local _ .vmem, ⟨7, _⟩ => ⟨S4x64x1408, .fp8e4m3⟩
  | .local _ .vmem, ⟨8, _⟩ => ⟨S64x2048, .f32⟩
  | .local _ .vmem, ⟨9, _⟩ => ⟨S64x2048, .bf16⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none
-- ==== ReferenceIdeal.lean ====
abbrev S64x1x2048 : Shape := ⟨3, ![64, 1, 2048]⟩
abbrev S2048x4 : Shape := ⟨2, ![2048, 4]⟩
abbrev S4x2048x2816 : Shape := ⟨3, ![4, 2048, 2816]⟩
abbrev S4x2816 : Shape := ⟨2, ![4, 2816]⟩
abbrev S4x1408x2048 : Shape := ⟨3, ![4, 1408, 2048]⟩
abbrev S4x2048 : Shape := ⟨2, ![4, 2048]⟩
abbrev S64x2048 : Shape := ⟨2, ![64, 2048]⟩
abbrev S64x4 : Shape := ⟨2, ![64, 4]⟩
abbrev S64x2 : Shape := ⟨2, ![64, 2]⟩
abbrev S_ : Shape := ⟨0, ![]⟩
abbrev S64 : Shape := ⟨1, ![64]⟩
abbrev S64x1 : Shape := ⟨2, ![64, 1]⟩
abbrev S64x2x1 : Shape := ⟨3, ![64, 2, 1]⟩
abbrev S4 : Shape := ⟨1, ![4]⟩
abbrev S1x1x4 : Shape := ⟨3, ![1, 1, 4]⟩
abbrev S64x2x4 : Shape := ⟨3, ![64, 2, 4]⟩
abbrev S64x254 : Shape := ⟨2, ![64, 254]⟩
abbrev S1x2048x2816 : Shape := ⟨3, ![1, 2048, 2816]⟩
abbrev S2048x2816 : Shape := ⟨2, ![2048, 2816]⟩
abbrev S64x2816 : Shape := ⟨2, ![64, 2816]⟩
abbrev S1x2816 : Shape := ⟨2, ![1, 2816]⟩
abbrev S64x1408 : Shape := ⟨2, ![64, 1408]⟩
abbrev S1x1408x2048 : Shape := ⟨3, ![1, 1408, 2048]⟩
abbrev S1408x2048 : Shape := ⟨2, ![1408, 2048]⟩
abbrev S1x2048 : Shape := ⟨2, ![1, 2048]⟩

abbrev nBuf : Space → Nat
  | .hbm => 40
  | .vmem => 7
  | .smem => 0
  | _ => 0

abbrev bufTy : (tb : Table) → Fin (tcTables nBuf tb) → BufTy
  | .hbm, ⟨0, _⟩ => ⟨S64x1x2048, .bf16⟩
  | .hbm, ⟨1, _⟩ => ⟨S2048x4, .f32⟩
  | .hbm, ⟨2, _⟩ => ⟨S4x2048x2816, .fp8e4m3⟩
  | .hbm, ⟨3, _⟩ => ⟨S4x2816, .f32⟩
  | .hbm, ⟨4, _⟩ => ⟨S4x1408x2048, .fp8e4m3⟩
  | .hbm, ⟨5, _⟩ => ⟨S4x2048, .f32⟩
  | .hbm, ⟨6, _⟩ => ⟨S64x2048, .bf16⟩
  | .hbm, ⟨7, _⟩ => ⟨S64x2048, .f32⟩
  | .hbm, ⟨8, _⟩ => ⟨S64x4, .f32⟩
  | .hbm, ⟨9, _⟩ => ⟨S64x2, .f32⟩
  | .hbm, ⟨10, _⟩ => ⟨S64x2, .i32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x2, .f32⟩
  | .hbm, ⟨18, _⟩ => ⟨S64x2, .f32⟩
  | .hbm, ⟨19, _⟩ => ⟨S64x2, .f32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S64x2, .f32⟩
  | .hbm, ⟨24, _⟩ => ⟨S64x2, .f32⟩
  | .hbm, ⟨25, _⟩ => ⟨S64x2x1, .i32⟩
  | .hbm, ⟨26, _⟩ => ⟨S4, .i32⟩
  | .hbm, ⟨27, _⟩ => ⟨S1x1x4, .i32⟩
  | .hbm, ⟨28, _⟩ => ⟨S64x2x4, .i32⟩
  | .hbm, ⟨29, _⟩ => ⟨S64x2x4, .i32⟩
  | .hbm, ⟨30, _⟩ => ⟨S64x2x4, .i1⟩
  | .hbm, ⟨31, _⟩ => ⟨S64x2x1, .f32⟩
  | .hbm, ⟨32, _⟩ => ⟨S_, .f32⟩
  | .hbm, ⟨33, _⟩ => ⟨S_, .f32⟩
  | .hbm, ⟨34, _⟩ => ⟨S64x2x4, .f32⟩
  | .hbm, ⟨35, _⟩ => ⟨S64x2x4, .f32⟩
  | .hbm, ⟨36, _⟩ => ⟨S64x2x4, .f32⟩
  | .hbm, ⟨37, _⟩ => ⟨S_, .f32⟩
  | .hbm, ⟨38, _⟩ => ⟨S64x4, .f32⟩
  | .hbm, ⟨39, _⟩ => ⟨S64x2048, .bf16⟩
  | .local _ .vmem, ⟨0, _⟩ => ⟨S64x2048, .bf16⟩
  | .local _ .vmem, ⟨1, _⟩ => ⟨S64x4, .f32⟩
  | .local _ .vmem, ⟨2, _⟩ => ⟨S4x2048x2816, .fp8e4m3⟩
  | .local _ .vmem, ⟨3, _⟩ => ⟨S4x2816, .f32⟩
  | .local _ .vmem, ⟨4, _⟩ => ⟨S4x1408x2048, .fp8e4m3⟩
  | .local _ .vmem, ⟨5, _⟩ => ⟨S4x2048, .f32⟩
  | .local _ .vmem, ⟨6, _⟩ => ⟨S64x2048, .bf16⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1408x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.MixedBatch
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The tokens in HBM. -/
abbrev bX : Memref sig .tc .hbm S64x2048 .bf16 := Memref.whole main_v0
/-- The router weights in HBM. -/
abbrev bWr : Memref sig .tc .hbm S4x2048 .f32 := Memref.whole main_v1
/-- The gate and up codes in HBM. -/
abbrev bGu : Memref sig .tc .hbm S4x2048x2816 .fp8e4m3 := Memref.whole main_arg2
/-- The gate and up scales in HBM. -/
abbrev bGus : Memref sig .tc .hbm S4x2816 .f32 := Memref.whole main_arg3
/-- The down codes in HBM. -/
abbrev bDn : Memref sig .tc .hbm S4x1408x2048 .fp8e4m3 := Memref.whole main_arg4
/-- The down scales in HBM. -/
abbrev bDns : Memref sig .tc .hbm S4x2048 .f32 := Memref.whole main_arg5
/-- The result in HBM. -/
abbrev bY : Memref sig .tc .hbm S64x2048 .bf16 := Memref.whole main_v2
/-- Scratch for the tokens. -/
abbrev s0 : Memref sig .tc .vmem S64x2048 .bf16 := Memref.whole cc0_scratch0
/-- Scratch for the router weights. -/
abbrev s1 : Memref sig .tc .vmem S4x2048 .f32 := Memref.whole cc0_scratch1
/-- Scratch for the gate and up scales. -/
abbrev s2 : Memref sig .tc .vmem S4x2816 .f32 := Memref.whole cc0_scratch2
/-- Scratch for the down scales. -/
abbrev s3 : Memref sig .tc .vmem S4x2048 .f32 := Memref.whole cc0_scratch3
/-- Scratch for the gate and up codes. -/
abbrev s4 : Memref sig .tc .vmem S4x2048x2816 .fp8e4m3 := Memref.whole cc0_scratch4
/-- Scratch for the down codes, padded. -/
abbrev s5 : Memref sig .tc .vmem S4x1408x2176 .fp8e4m3 := Memref.whole cc0_scratch5
/-- Scratch for the tokens' codes. -/
abbrev s6 : Memref sig .tc .vmem S64x2048 .fp8e4m3 := Memref.whole cc0_scratch6
/-- Scratch for the hidden layers' codes. -/
abbrev s7 : Memref sig .tc .vmem S4x64x1408 .fp8e4m3 := Memref.whole cc0_scratch7
/-- Scratch for the running sum. -/
abbrev s8 : Memref sig .tc .vmem S64x2048 .f32 := Memref.whole cc0_scratch8
/-- Scratch for the result. -/
abbrev s9 : Memref sig .tc .vmem S64x2048 .bf16 := Memref.whole cc0_scratch9
/-- The contents of a memref's buffer on core `c`. -/
abbrev MBuf (c : Dev nD) {sp : Space} {S : Shape} {e : EltTy} (M : Memref sig .tc sp S e) : Type := Buf (Elt F) (M.view.loc (c : Thread nD τ))
/-- A memref's buffer held whole on core `c`, at contents `f`. -/
abbrev pt (c : Dev nD) {sp : Space} {S : Shape} {e : EltTy} (M : Memref sig .tc sp S e) (f : MBuf (F := F) c M) : sProp 𝕄 :=
  M.view.loc (c : Thread nD τ) ↦{fullShare} f

/-- A copy's delivery: its destination buffer at the source's words, and the source's buffer back. -/
abbrev dlv (c : Dev nD) {S : Shape} {e : EltTy} (src : Memref sig .tc .hbm S e) (dst : Memref sig .tc .vmem S e)
    (fs : MBuf (F := F) c src) (fd : MBuf (F := F) c dst) : sProp 𝕄 :=
  iprop((dst.view.loc (c : Thread nD τ) ↦{fullShare} View.write (Elt F) dst.view fd (ReadAs.same.apply (src.view.read (Elt F) fs)) Finset.univ)
    ∗ (src.view.loc (c : Thread nD τ) ↦[src.view.set]{fullShare} fs))
/-- The three small copies' amounts, in issue order: the router's transposed weights, the two tables of weight scales. -/
abbrev A1 : Fin 3 → ℕ := ![1024, 1408, 1024]
/-- Their deliveries, in issue order. -/
def deliv1 (c : Dev nD) (f1 : MBuf (F := F) c bWr) (f3 : MBuf (F := F) c bGus) (f5 : MBuf (F := F) c bDns)
    (d1 : MBuf (F := F) c s1) (d2 : MBuf (F := F) c s2) (d3 : MBuf (F := F) c s3) : Fin 3 → sProp 𝕄
  | 0 => dlv c bWr s1 f1 d1
  | 1 => dlv c bGus s2 f3 d2
  | 2 => dlv c bDns s3 f5 d3
/-- What each of the three copies delivers can be kept until its wait. -/
instance deliv1_storable (c : Dev nD) (f1 : MBuf (F := F) c bWr) (f3 : MBuf (F := F) c bGus) (f5 : MBuf (F := F) c bDns)
    (d1 : MBuf (F := F) c s1) (d2 : MBuf (F := F) c s2) (d3 : MBuf (F := F) c s3) (t : Fin 3) :
    Storable (upEmb : UEmb _ 𝕄) (deliv1 c f1 f3 f5 d1 d2 d3 t) := by
  fin_cases t <;> simp only [deliv1] <;> infer_instance

set_option sl_exec.dmaWindow true in
set_option sl_exec.squeezeSlice true in
/-- The body's run: from the scratch buffers at any contents `g0 … g9`, every own counter at zero and the seven HBM
    operands at the contents named, it runs to its end with the counters back at zero, the six operands it reads as
    they were and the result at contents the run finds, a function of the operands and (as far as this statement says)
    of what some scratch buffers held. The three copies on one counter are a batch of unlike amounts, the result's
    two copies a batch of windows. -/
noncomputable def kernelRun (c : Dev nD)
    (fx : MBuf (F := F) c bX) (fwr : MBuf (F := F) c bWr) (fgu : MBuf (F := F) c bGu)
    (fgus : MBuf (F := F) c bGus) (fdn : MBuf (F := F) c bDn) (fdns : MBuf (F := F) c bDns) (fy : MBuf (F := F) c bY)
    (g0 : MBuf (F := F) c s0) (g1 : MBuf (F := F) c s1) (g2 : MBuf (F := F) c s2) (g3 : MBuf (F := F) c s3)
    (g4 : MBuf (F := F) c s4) (g5 : MBuf (F := F) c s5) (g6 : MBuf (F := F) c s6) (g7 : MBuf (F := F) c s7)
    (g8 : MBuf (F := F) c s8) (g9 : MBuf (F := F) c s9) :
    { G : MBuf (F := F) c bY //
      ∀ (W : Waits sig Unit) (K : PUnit → sProp 𝕄),
        iprop(pt c s0 g0 ∗ pt c s1 g1 ∗ pt c s2 g2 ∗ pt c s3 g3 ∗ pt c s4 g4
            ∗ pt c s5 g5 ∗ pt c s6 g6 ∗ pt c s7 g7 ∗ pt c s8 g8 ∗ pt c s9 g9
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ pt c bX fx ∗ pt c bWr fwr ∗ pt c bGu fgu ∗ pt c bGus fgus ∗ pt c bDn fdn ∗ pt c bDns fdns
            ∗ pt c bY fy
            ∗ owes (c : Thread nD τ) 0 W
            ∗ (iprop((∃ f, pt c s0 f) ∗ (∃ f, pt c s1 f) ∗ (∃ f, pt c s2 f) ∗ (∃ f, pt c s3 f) ∗ (∃ f, pt c s4 f)
                ∗ (∃ f, pt c s5 f) ∗ (∃ f, pt c s6 f) ∗ (∃ f, pt c s7 f) ∗ (∃ f, pt c s8 f) ∗ (∃ f, pt c s9 f)
                ∗ semVal ((c : Thread nD τ), SemLoc.dma 0) 0 ∗ semVal ((c : Thread nD τ), SemLoc.dma 1) 0
                ∗ semVal ((c : Thread nD τ), SemLoc.dma 2) 0 ∗ semVal ((c : Thread nD τ), SemLoc.dma 3) 0
                ∗ semVal ((c : Thread nD τ), SemLoc.dma 4) 0 ∗ semVal ((c : Thread nD τ), SemLoc.dma 5) 0
                ∗ pt c bX fx ∗ pt c bWr fwr ∗ pt c bGu fgu ∗ pt c bGus fgus ∗ pt c bDn fdn ∗ pt c bDns fdns
                ∗ pt c bY G
                ∗ (∃ W', owes (c : Thread nD τ) 0 W')) -∗ K ⟨⟩))
          ⊢ wp frame (wpE (defs₀ (F := F)) Variants.none c none) Set.univ (bodyAt0 t0_0) K } := by
  refine ⟨?_, fun W K => ?run⟩
  case run =>
    unfold bodyAt0
    simp only [cc0_moe_swiglu_fp8_eq_skeleton]; unfold cc0_moe_swiglu_fp8_skel
    iintro ⟨Hs0, Hs1, Hs2, Hs3, Hs4, Hs5, Hs6, Hs7, Hs8, Hs9,
      Hq0, Hq1, Hq2, Hq3, Hq4, Hq5, Hx, Hwr, Hgu, Hgus, Hdn, Hdns, Hy, HW, Hk⟩
    imod (Transfers.mixedBatch_alloc' (Lvl := ℕ) (countersEmb (U := Pipeline.UD sig nD τ)) (c : Thread nD τ) () A1
      (deliv1 c fwr fgus fdns g1 g2 g3) (sm := SemLoc.dma 1) (E := Set.univ)) $$ Hq1 with HB1
    unfold deliv1
    have plan : Transfers.BatchOf (c : Thread nD τ) (SemLoc.dma 5 : SemLoc sig) 2 (windows := true) := trivial
    sl_exec
    sl_step
    iapply Hk
    isplitl [Hs0]; · iexists _; iexact Hs0
    isplitl [HB1_dst0]; · iexists _; iexact HB1_dst0
    isplitl [HB1_dst1]; · iexists _; iexact HB1_dst1
    isplitl [HB1_dst2]; · iexists _; iexact HB1_dst2
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hq0]; · iexact Hq0
    isplitl [HB1]; · iexact HB1
    isplitl [Hq2]; · iexact Hq2
    isplitl [Hq3]; · iexact Hq3
    isplitl [Hq4]; · iexact Hq4
    isplitl [Hq5]; · iexact Hq5
    isplitl [Hx]; · iexact Hx
    isplitl [Hwr]; · iexact Hwr
    isplitl [Hgu]; · iexact Hgu
    isplitl [Hgus]; · iexact Hgus
    isplitl [Hdn]; · iexact Hdn
    isplitl [Hdns]; · iexact Hdns
    isplitl [Hy]; · iexact Hy
    iexists _; iexact HW

end Cert.Kernel.Hand

end
-- ==== Proof.KernelFrame.lean ====
module

public import proofs.«01_k».proof.Proof.KernelRun
public import proofs.«01_k».proof.Proof.Gen.Kernel.Launch
public import proofs.«01_k».proof.Proof.Gen.Kernel.Frame
public import proofs.«01_k».proof.Proof.Gen.Kernel.Points
public import Idealize.ShloMosaic.Lib.Pipeline.FrameBody
public import Idealize.ShloMosaic.Lib.MixedBatch
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The buffer the body writes in HBM by its own copies: the result. -/
def R0 : Finset (Ref sig .tc) := {main_v2}
/-- The HBM operands the body's copies read. -/
def H0 : Finset (Ref sig .tc) := {main_v0, main_v1, main_arg2, main_arg3, main_arg4, main_arg5}
/-- The operands the copies read are buffers the launch keeps for the body. -/
theorem H0_sub : H0 ⊆ Pipeline.restRefs sig cfg0.spec := by decide
/-- The result's buffer is another of those buffers. -/
theorem R0_sub : R0 ⊆ Pipeline.restRefs sig cfg0.spec \ H0 := by decide

set_option maxHeartbeats 800000 in
/-- @main up to the kernel call: the host's reshape and transpose, then the region, at the algebra with counters. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's six DMA counters. -/
abbrev osem0 : Fin 6 → SemLoc sig := fun j => (![SemLoc.dma 0, SemLoc.dma 1, SemLoc.dma 2, SemLoc.dma 3, SemLoc.dma 4, SemLoc.dma 5] : Fin 6 → SemLoc sig) j
/-- The six counters are the body's own and none is named twice. -/
theorem ownSemFacts0 : Pipeline.OwnSemFacts cfg0.spec osem0 := by decide
/-- The six counters at zero, written out one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c osem0 [0, 1, 2, 3, 4, 5] (by decide) (by decide)]; rfl

/-- The six operands, written out one by one. -/
theorem hbmPts0_eq (c : Dev nD) :
    (bigSep H0 (fun b => ((c : Thread nD τ).loc b) ↦{fullShare} V m c b) : sProp 𝕄)
      = iprop(pt c bX (V m c main_v0) ∗ pt c bWr (V m c main_v1) ∗ pt c bGu (V m c main_arg2)
          ∗ pt c bGus (V m c main_arg3) ∗ pt c bDn (V m c main_arg4) ∗ pt c bDns (V m c main_arg5)) := by
  rw [BI.bigSep_eq_bigSepL_of_eq [main_v0, main_v1, main_arg2, main_arg3, main_arg4, main_arg5] (by decide) (by decide)]; rfl

/-- The ten scratch buffers, written out one by one. -/
theorem scoped0_eq (c : Dev nD) :
    (Pipeline.scopedRest (Ix := Unit) (Name := ℕ) (U := Pipeline.UD sig nD τ) (Lvl := ℕ) (Val := Elt F) (cfg0.spec) c : sProp 𝕄)
      = iprop((∃ f, pt c s0 f) ∗ (∃ f, pt c s1 f) ∗ (∃ f, pt c s2 f) ∗ (∃ f, pt c s3 f) ∗ (∃ f, pt c s4 f)
          ∗ (∃ f, pt c s5 f) ∗ (∃ f, pt c s6 f) ∗ (∃ f, pt c s7 f) ∗ (∃ f, pt c s8 f) ∗ (∃ f, pt c s9 f)) := by
  rw [scopedRest0_eq]

/-- The result's buffer at some contents. -/
theorem ownedPts0_eq (c : Dev nD) : (Pipeline.owned R0 c : sProp 𝕄) = iprop(∃ f, pt c bY f) := by
  unfold Pipeline.owned; rw [BI.bigSep_eq_bigSepL_of_eq [main_v2] (by decide) (by decide)]; rfl

/-- The invariant between the region's points, conjunct by conjunct. -/
theorem PhiDR0_eq (c : Dev nD) :
    (Pipeline.ΦDR osem0 cfg0.spec H0 R0 (V m) c : sProp 𝕄)
      = iprop(iprop((∃ f, pt c s0 f) ∗ (∃ f, pt c s1 f) ∗ (∃ f, pt c s2 f) ∗ (∃ f, pt c s3 f) ∗ (∃ f, pt c s4 f)
              ∗ (∃ f, pt c s5 f) ∗ (∃ f, pt c s6 f) ∗ (∃ f, pt c s7 f) ∗ (∃ f, pt c s8 f) ∗ (∃ f, pt c s9 f))
          ∗ (∃ r, prngReg c r)
          ∗ iprop(semVal ((c : Thread nD τ), SemLoc.dma 0) 0 ∗ semVal ((c : Thread nD τ), SemLoc.dma 1) 0
              ∗ semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0)
          ∗ iprop(pt c bX (V m c main_v0) ∗ pt c bWr (V m c main_v1) ∗ pt c bGu (V m c main_arg2)
              ∗ pt c bGus (V m c main_arg3) ∗ pt c bDn (V m c main_arg4) ∗ pt c bDns (V m c main_arg5))
          ∗ (∃ f, pt c bY f)) := by
  rw [Pipeline.ΦDR_eq, scoped0_eq, ownSems00_eq, hbmPts0_eq, ownedPts0_eq]

/-- The proof data of the one region: no window, the invariant above before and after its one point. -/
def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

/-- The region has no window, so there is no window's array to compare. -/
theorem A_eq (c : Dev nD) (w : Fin (cfgs 0).W) : (dats m 0 c).A w = V m c (Pipeline.arrRef (cfgs 0).spec w) := w.elim0

/-- What the body starts from. -/
def bodyPre (c : Dev nD) (t : Fin cfg0.N) : sProp 𝕄 :=
  iprop((dats m 0 c).Φ t.castSucc ∗ (dats m 0 c).owesAt () t.castSucc ∗ BI.emp)
/-- What the body ends with. -/
def bodyPost (c : Dev nD) (t : Fin cfg0.N) : sProp 𝕄 :=
  iprop((dats m 0 c).Φ t.succ ∗ (dats m 0 c).owesAt () t.succ ∗ BI.emp)

/-- The body takes the invariant to itself. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩⟩,
    Hg, ⟨Hq0, Hq1, Hq2, Hq3, Hq4, Hq5⟩, ⟨Hx, Hwr, Hgu, Hgus, Hdn, Hdns⟩, ⟨%fy, Hy⟩⟩, ⟨%W, -, HW⟩, He⟩
  iapply ((kernelRun c (V m c main_v0) (V m c main_v1) (V m c main_arg2) (V m c main_arg3) (V m c main_arg4) (V m c main_arg5) fy
    g0 g1 g2 g3 g4 g5 g6 g7 g8 g9).2 W _)
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hx]; · iexact Hx
  isplitl [Hwr]; · iexact Hwr
  isplitl [Hgu]; · iexact Hgu
  isplitl [Hgus]; · iexact Hgus
  isplitl [Hdn]; · iexact Hdn
  isplitl [Hdns]; · iexact Hdns
  isplitl [Hy]; · iexact Hy
  isplitl [HW]; · iexact HW
  iintro ⟨Hs0, Hs1, Hs2, Hs3, Hs4, Hs5, Hs6, Hs7, Hs8, Hs9, Hq0, Hq1, Hq2, Hq3, Hq4, Hq5, Hx, Hwr, Hgu, Hgus, Hdn, Hdns, Hy, ⟨%W', HW'⟩⟩
  isplitl [Hs0 Hs1 Hs2 Hs3 Hs4 Hs5 Hs6 Hs7 Hs8 Hs9 Hg Hq0 Hq1 Hq2 Hq3 Hq4 Hq5 Hx Hwr Hgu Hgus Hdn Hdns Hy]
  · isplitl [Hs0 Hs1 Hs2 Hs3 Hs4 Hs5 Hs6 Hs7 Hs8 Hs9]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hx Hwr Hgu Hgus Hdn Hdns]
    · isplitl [Hx]; · iexact Hx
      isplitl [Hwr]; · iexact Hwr
      isplitl [Hgu]; · iexact Hgu
      isplitl [Hgus]; · iexact Hgus
      isplitl [Hdn]; · iexact Hdn
      iexact Hdns
    iexists _; iexact Hy
  isplitl [HW']
  · iexists W'; isplitr; · ipureintro; exact fun _ _ => Or.inl trivial
    iexact HW'
  iexact He

/-- The launch's body is the printed body. -/
theorem defs₀_row (t : Fin cfg0.N) :
    defs₀ (F := F) .tc cfg0.body (cfg0.bodyArgs t (cfg0.slots t)) = bodyAt0 t := by
  unfold defs₀; rw [Defs.onTc_tc]

/-- The region has no window. -/
theorem bigSep_W0 {M : Type} [URA M] (Φ : Fin 0 → sProp M) : bigSep Finset.univ Φ = BI.emp :=
  bigSep_univ_eq_bigSepL [] (by decide) (by decide) Φ

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: @main runs to its end, the result at some contents, every other buffer as the region found it, every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: the program runs to its end, its six arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KernelIdealRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The tokens in HBM. -/
abbrev bX : Memref sig .tc .hbm S64x2048 .bf16 := Memref.whole main_v0
/-- The router weights in HBM. -/
abbrev bWr : Memref sig .tc .hbm S4x2048 .f32 := Memref.whole main_v1
/-- The gate and up codes in HBM. -/
abbrev bGu : Memref sig .tc .hbm S4x2048x2816 .fp8e4m3 := Memref.whole main_arg2
/-- The gate and up scales in HBM. -/
abbrev bGus : Memref sig .tc .hbm S4x2816 .f32 := Memref.whole main_arg3
/-- The down codes in HBM. -/
abbrev bDn : Memref sig .tc .hbm S4x1408x2048 .fp8e4m3 := Memref.whole main_arg4
/-- The down scales in HBM. -/
abbrev bDns : Memref sig .tc .hbm S4x2048 .f32 := Memref.whole main_arg5
/-- The result in HBM. -/
abbrev bY : Memref sig .tc .hbm S64x2048 .bf16 := Memref.whole main_v2
/-- Scratch for the tokens. -/
abbrev s0 : Memref sig .tc .vmem S64x2048 .bf16 := Memref.whole cc0_scratch0
/-- Scratch for the router weights. -/
abbrev s1 : Memref sig .tc .vmem S4x2048 .f32 := Memref.whole cc0_scratch1
/-- Scratch for the gate and up scales. -/
abbrev s2 : Memref sig .tc .vmem S4x2816 .f32 := Memref.whole cc0_scratch2
/-- Scratch for the down scales. -/
abbrev s3 : Memref sig .tc .vmem S4x2048 .f32 := Memref.whole cc0_scratch3
/-- Scratch for the gate and up codes. -/
abbrev s4 : Memref sig .tc .vmem S4x2048x2816 .fp8e4m3 := Memref.whole cc0_scratch4
/-- Scratch for the down codes, padded. -/
abbrev s5 : Memref sig .tc .vmem S4x1408x2176 .fp8e4m3 := Memref.whole cc0_scratch5
/-- Scratch for the tokens' codes. -/
abbrev s6 : Memref sig .tc .vmem S64x2048 .fp8e4m3 := Memref.whole cc0_scratch6
/-- Scratch for the hidden layers' codes. -/
abbrev s7 : Memref sig .tc .vmem S4x64x1408 .fp8e4m3 := Memref.whole cc0_scratch7
/-- Scratch for the running sum. -/
abbrev s8 : Memref sig .tc .vmem S64x2048 .f32 := Memref.whole cc0_scratch8
/-- Scratch for the result. -/
abbrev s9 : Memref sig .tc .vmem S64x2048 .bf16 := Memref.whole cc0_scratch9
/-- The contents of a memref's buffer on core `c`. -/
abbrev MBuf (c : Dev nD) {sp : Space} {S : Shape} {e : EltTy} (M : Memref sig .tc sp S e) : Type := Buf (Elt F) (M.view.loc (c : Thread nD τ))
/-- A memref's buffer held whole on core `c`, at contents `f`. -/
abbrev pt (c : Dev nD) {sp : Space} {S : Shape} {e : EltTy} (M : Memref sig .tc sp S e) (f : MBuf (F := F) c M) : sProp 𝕄 :=
  M.view.loc (c : Thread nD τ) ↦{fullShare} f

/-- A copy's delivery: its destination buffer at the source's words, and the source's buffer back. -/
abbrev dlv (c : Dev nD) {S : Shape} {e : EltTy} (src : Memref sig .tc .hbm S e) (dst : Memref sig .tc .vmem S e)
    (fs : MBuf (F := F) c src) (fd : MBuf (F := F) c dst) : sProp 𝕄 :=
  iprop((dst.view.loc (c : Thread nD τ) ↦{fullShare} View.write (Elt F) dst.view fd (ReadAs.same.apply (src.view.read (Elt F) fs)) Finset.univ)
    ∗ (src.view.loc (c : Thread nD τ) ↦[src.view.set]{fullShare} fs))
/-- The three small copies' amounts, in issue order: the router's transposed weights, the two tables of weight scales. -/
abbrev A1 : Fin 3 → ℕ := ![1024, 1408, 1024]
/-- Their deliveries, in issue order. -/
def deliv1 (c : Dev nD) (f1 : MBuf (F := F) c bWr) (f3 : MBuf (F := F) c bGus) (f5 : MBuf (F := F) c bDns)
    (d1 : MBuf (F := F) c s1) (d2 : MBuf (F := F) c s2) (d3 : MBuf (F := F) c s3) : Fin 3 → sProp 𝕄
  | 0 => dlv c bWr s1 f1 d1
  | 1 => dlv c bGus s2 f3 d2
  | 2 => dlv c bDns s3 f5 d3
/-- What each of the three copies delivers can be kept until its wait. -/
instance deliv1_storable (c : Dev nD) (f1 : MBuf (F := F) c bWr) (f3 : MBuf (F := F) c bGus) (f5 : MBuf (F := F) c bDns)
    (d1 : MBuf (F := F) c s1) (d2 : MBuf (F := F) c s2) (d3 : MBuf (F := F) c s3) (t : Fin 3) :
    Storable (upEmb : UEmb _ 𝕄) (deliv1 c f1 f3 f5 d1 d2 d3 t) := by
  fin_cases t <;> simp only [deliv1] <;> infer_instance

set_option sl_exec.dmaWindow true in
set_option sl_exec.squeezeSlice true in
/-- The body's run: from the scratch buffers at any contents `g0 … g9`, every own counter at zero and the seven HBM
    operands at the contents named, it runs to its end with the counters back at zero, the six operands it reads as
    they were and the result at contents the run finds, a function of the operands and (as far as this statement says)
    of what some scratch buffers held. The three copies on one counter are a batch of unlike amounts, the result's
    two copies a batch of windows. -/
noncomputable def kernelRun (c : Dev nD)
    (fx : MBuf (F := F) c bX) (fwr : MBuf (F := F) c bWr) (fgu : MBuf (F := F) c bGu)
    (fgus : MBuf (F := F) c bGus) (fdn : MBuf (F := F) c bDn) (fdns : MBuf (F := F) c bDns) (fy : MBuf (F := F) c bY)
    (g0 : MBuf (F := F) c s0) (g1 : MBuf (F := F) c s1) (g2 : MBuf (F := F) c s2) (g3 : MBuf (F := F) c s3)
    (g4 : MBuf (F := F) c s4) (g5 : MBuf (F := F) c s5) (g6 : MBuf (F := F) c s6) (g7 : MBuf (F := F) c s7)
    (g8 : MBuf (F := F) c s8) (g9 : MBuf (F := F) c s9) :
    { G : MBuf (F := F) c bY //
      ∀ (W : Waits sig Unit) (K : PUnit → sProp 𝕄),
        iprop(pt c s0 g0 ∗ pt c s1 g1 ∗ pt c s2 g2 ∗ pt c s3 g3 ∗ pt c s4 g4
            ∗ pt c s5 g5 ∗ pt c s6 g6 ∗ pt c s7 g7 ∗ pt c s8 g8 ∗ pt c s9 g9
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ pt c bX fx ∗ pt c bWr fwr ∗ pt c bGu fgu ∗ pt c bGus fgus ∗ pt c bDn fdn ∗ pt c bDns fdns
            ∗ pt c bY fy
            ∗ owes (c : Thread nD τ) 0 W
            ∗ (iprop((∃ f, pt c s0 f) ∗ (∃ f, pt c s1 f) ∗ (∃ f, pt c s2 f) ∗ (∃ f, pt c s3 f) ∗ (∃ f, pt c s4 f)
                ∗ (∃ f, pt c s5 f) ∗ (∃ f, pt c s6 f) ∗ (∃ f, pt c s7 f) ∗ (∃ f, pt c s8 f) ∗ (∃ f, pt c s9 f)
                ∗ semVal ((c : Thread nD τ), SemLoc.dma 0) 0 ∗ semVal ((c : Thread nD τ), SemLoc.dma 1) 0
                ∗ semVal ((c : Thread nD τ), SemLoc.dma 2) 0 ∗ semVal ((c : Thread nD τ), SemLoc.dma 3) 0
                ∗ semVal ((c : Thread nD τ), SemLoc.dma 4) 0 ∗ semVal ((c : Thread nD τ), SemLoc.dma 5) 0
                ∗ pt c bX fx ∗ pt c bWr fwr ∗ pt c bGu fgu ∗ pt c bGus fgus ∗ pt c bDn fdn ∗ pt c bDns fdns
                ∗ pt c bY G
                ∗ (∃ W', owes (c : Thread nD τ) 0 W')) -∗ K ⟨⟩))
          ⊢ wp frame (wpE (defs₀ (F := F)) Variants.none c none) Set.univ (bodyAt0 t0_0) K } := by
  refine ⟨?_, fun W K => ?run⟩
  case run =>
    unfold bodyAt0
    simp only [cc0_moe_swiglu_fp8_eq_skeleton]; unfold cc0_moe_swiglu_fp8_skel
    iintro ⟨Hs0, Hs1, Hs2, Hs3, Hs4, Hs5, Hs6, Hs7, Hs8, Hs9,
      Hq0, Hq1, Hq2, Hq3, Hq4, Hq5, Hx, Hwr, Hgu, Hgus, Hdn, Hdns, Hy, HW, Hk⟩
    imod (Transfers.mixedBatch_alloc' (Lvl := ℕ) (countersEmb (U := Pipeline.UD sig nD τ)) (c : Thread nD τ) () A1
      (deliv1 c fwr fgus fdns g1 g2 g3) (sm := SemLoc.dma 1) (E := Set.univ)) $$ Hq1 with HB1
    unfold deliv1
    have plan : Transfers.BatchOf (c : Thread nD τ) (SemLoc.dma 5 : SemLoc sig) 2 (windows := true) := trivial
    sl_exec
    sl_step
    iapply Hk
    isplitl [Hs0]; · iexists _; iexact Hs0
    isplitl [HB1_dst0]; · iexists _; iexact HB1_dst0
    isplitl [HB1_dst1]; · iexists _; iexact HB1_dst1
    isplitl [HB1_dst2]; · iexists _; iexact HB1_dst2
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hq0]; · iexact Hq0
    isplitl [HB1]; · iexact HB1
    isplitl [Hq2]; · iexact Hq2
    isplitl [Hq3]; · iexact Hq3
    isplitl [Hq4]; · iexact Hq4
    isplitl [Hq5]; · iexact Hq5
    isplitl [Hx]; · iexact Hx
    isplitl [Hwr]; · iexact Hwr
    isplitl [Hgu]; · iexact Hgu
    isplitl [Hgus]; · iexact Hgus
    isplitl [Hdn]; · iexact Hdn
    isplitl [Hdns]; · iexact Hdns
    isplitl [Hy]; · iexact Hy
    iexists _; iexact HW

end Cert.KernelIdeal.Hand

end
-- ==== Proof.KernelIdealFrame.lean ====
module

public import proofs.«01_k».proof.Proof.KernelIdealRun
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The buffer the body writes in HBM by its own copies: the result. -/
def R0 : Finset (Ref sig .tc) := {main_v2}
/-- The HBM operands the body's copies read. -/
def H0 : Finset (Ref sig .tc) := {main_v0, main_v1, main_arg2, main_arg3, main_arg4, main_arg5}
/-- The operands the copies read are buffers the launch keeps for the body. -/
theorem H0_sub : H0 ⊆ Pipeline.restRefs sig cfg0.spec := by decide
/-- The result's buffer is another of those buffers. -/
theorem R0_sub : R0 ⊆ Pipeline.restRefs sig cfg0.spec \ H0 := by decide

set_option maxHeartbeats 800000 in
/-- @main up to the kernel call: the host's reshape and transpose, then the region, at the algebra with counters. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's six DMA counters. -/
abbrev osem0 : Fin 6 → SemLoc sig := fun j => (![SemLoc.dma 0, SemLoc.dma 1, SemLoc.dma 2, SemLoc.dma 3, SemLoc.dma 4, SemLoc.dma 5] : Fin 6 → SemLoc sig) j
/-- The six counters are the body's own and none is named twice. -/
theorem ownSemFacts0 : Pipeline.OwnSemFacts cfg0.spec osem0 := by decide
/-- The six counters at zero, written out one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c osem0 [0, 1, 2, 3, 4, 5] (by decide) (by decide)]; rfl

/-- The six operands, written out one by one. -/
theorem hbmPts0_eq (c : Dev nD) :
    (bigSep H0 (fun b => ((c : Thread nD τ).loc b) ↦{fullShare} V m c b) : sProp 𝕄)
      = iprop(pt c bX (V m c main_v0) ∗ pt c bWr (V m c main_v1) ∗ pt c bGu (V m c main_arg2)
          ∗ pt c bGus (V m c main_arg3) ∗ pt c bDn (V m c main_arg4) ∗ pt c bDns (V m c main_arg5)) := by
  rw [BI.bigSep_eq_bigSepL_of_eq [main_v0, main_v1, main_arg2, main_arg3, main_arg4, main_arg5] (by decide) (by decide)]; rfl

/-- The ten scratch buffers, written out one by one. -/
theorem scoped0_eq (c : Dev nD) :
    (Pipeline.scopedRest (Ix := Unit) (Name := ℕ) (U := Pipeline.UD sig nD τ) (Lvl := ℕ) (Val := Elt F) (cfg0.spec) c : sProp 𝕄)
      = iprop((∃ f, pt c s0 f) ∗ (∃ f, pt c s1 f) ∗ (∃ f, pt c s2 f) ∗ (∃ f, pt c s3 f) ∗ (∃ f, pt c s4 f)
          ∗ (∃ f, pt c s5 f) ∗ (∃ f, pt c s6 f) ∗ (∃ f, pt c s7 f) ∗ (∃ f, pt c s8 f) ∗ (∃ f, pt c s9 f)) := by
  rw [scopedRest0_eq]

/-- The result's buffer at some contents. -/
theorem ownedPts0_eq (c : Dev nD) : (Pipeline.owned R0 c : sProp 𝕄) = iprop(∃ f, pt c bY f) := by
  unfold Pipeline.owned; rw [BI.bigSep_eq_bigSepL_of_eq [main_v2] (by decide) (by decide)]; rfl

/-- The invariant between the region's points, conjunct by conjunct. -/
theorem PhiDR0_eq (c : Dev nD) :
    (Pipeline.ΦDR osem0 cfg0.spec H0 R0 (V m) c : sProp 𝕄)
      = iprop(iprop((∃ f, pt c s0 f) ∗ (∃ f, pt c s1 f) ∗ (∃ f, pt c s2 f) ∗ (∃ f, pt c s3 f) ∗ (∃ f, pt c s4 f)
              ∗ (∃ f, pt c s5 f) ∗ (∃ f, pt c s6 f) ∗ (∃ f, pt c s7 f) ∗ (∃ f, pt c s8 f) ∗ (∃ f, pt c s9 f))
          ∗ (∃ r, prngReg c r)
          ∗ iprop(semVal ((c : Thread nD τ), SemLoc.dma 0) 0 ∗ semVal ((c : Thread nD τ), SemLoc.dma 1) 0
              ∗ semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0)
          ∗ iprop(pt c bX (V m c main_v0) ∗ pt c bWr (V m c main_v1) ∗ pt c bGu (V m c main_arg2)
              ∗ pt c bGus (V m c main_arg3) ∗ pt c bDn (V m c main_arg4) ∗ pt c bDns (V m c main_arg5))
          ∗ (∃ f, pt c bY f)) := by
  rw [Pipeline.ΦDR_eq, scoped0_eq, ownSems00_eq, hbmPts0_eq, ownedPts0_eq]

/-- The proof data of the one region: no window, the invariant above before and after its one point. -/
def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

/-- The region has no window, so there is no window's array to compare. -/
theorem A_eq (c : Dev nD) (w : Fin (cfgs 0).W) : (dats m 0 c).A w = V m c (Pipeline.arrRef (cfgs 0).spec w) := w.elim0

/-- What the body starts from. -/
def bodyPre (c : Dev nD) (t : Fin cfg0.N) : sProp 𝕄 :=
  iprop((dats m 0 c).Φ t.castSucc ∗ (dats m 0 c).owesAt () t.castSucc ∗ BI.emp)
/-- What the body ends with. -/
def bodyPost (c : Dev nD) (t : Fin cfg0.N) : sProp 𝕄 :=
  iprop((dats m 0 c).Φ t.succ ∗ (dats m 0 c).owesAt () t.succ ∗ BI.emp)

/-- The body takes the invariant to itself. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩⟩,
    Hg, ⟨Hq0, Hq1, Hq2, Hq3, Hq4, Hq5⟩, ⟨Hx, Hwr, Hgu, Hgus, Hdn, Hdns⟩, ⟨%fy, Hy⟩⟩, ⟨%W, -, HW⟩, He⟩
  iapply ((kernelRun c (V m c main_v0) (V m c main_v1) (V m c main_arg2) (V m c main_arg3) (V m c main_arg4) (V m c main_arg5) fy
    g0 g1 g2 g3 g4 g5 g6 g7 g8 g9).2 W _)
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hx]; · iexact Hx
  isplitl [Hwr]; · iexact Hwr
  isplitl [Hgu]; · iexact Hgu
  isplitl [Hgus]; · iexact Hgus
  isplitl [Hdn]; · iexact Hdn
  isplitl [Hdns]; · iexact Hdns
  isplitl [Hy]; · iexact Hy
  isplitl [HW]; · iexact HW
  iintro ⟨Hs0, Hs1, Hs2, Hs3, Hs4, Hs5, Hs6, Hs7, Hs8, Hs9, Hq0, Hq1, Hq2, Hq3, Hq4, Hq5, Hx, Hwr, Hgu, Hgus, Hdn, Hdns, Hy, ⟨%W', HW'⟩⟩
  isplitl [Hs0 Hs1 Hs2 Hs3 Hs4 Hs5 Hs6 Hs7 Hs8 Hs9 Hg Hq0 Hq1 Hq2 Hq3 Hq4 Hq5 Hx Hwr Hgu Hgus Hdn Hdns Hy]
  · isplitl [Hs0 Hs1 Hs2 Hs3 Hs4 Hs5 Hs6 Hs7 Hs8 Hs9]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hx Hwr Hgu Hgus Hdn Hdns]
    · isplitl [Hx]; · iexact Hx
      isplitl [Hwr]; · iexact Hwr
      isplitl [Hgu]; · iexact Hgu
      isplitl [Hgus]; · iexact Hgus
      isplitl [Hdn]; · iexact Hdn
      iexact Hdns
    iexists _; iexact Hy
  isplitl [HW']
  · iexists W'; isplitr; · ipureintro; exact fun _ _ => Or.inl trivial
    iexact HW'
  iexact He

/-- The launch's body is the printed body. -/
theorem defs₀_row (t : Fin cfg0.N) :
    defs₀ (F := F) .tc cfg0.body (cfg0.bodyArgs t (cfg0.slots t)) = bodyAt0 t := by
  unfold defs₀; rw [Defs.onTc_tc]

/-- The region has no window. -/
theorem bigSep_W0 {M : Type} [URA M] (Φ : Fin 0 → sProp M) : bigSep Finset.univ Φ = BI.emp :=
  bigSep_univ_eq_bigSepL [] (by decide) (by decide) Φ

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: @main runs to its end, the result at some contents, every other buffer as the region found it, every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: the program runs to its end, its six arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.KernelIdealReads.lean ====
module

public import proofs.«01_k».proof.Proof.KernelIdealRun
public import Idealize.ShloMosaic.Lib.Pipeline.Value
import Idealize.ShloMosaic.Lib.Pipeline.ReadBack
public import Idealize.ShloMosaic.Lib.WritesUnit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (c : Dev nD) (fx : MBuf (F := F) c bX) (fwr : MBuf (F := F) c bWr) (fgu : MBuf (F := F) c bGu)
  (fgus : MBuf (F := F) c bGus) (fdn : MBuf (F := F) c bDn) (fdns : MBuf (F := F) c bDns)
  (g0 : MBuf (F := F) c s0) (g1 : MBuf (F := F) c s1) (g2 : MBuf (F := F) c s2) (g3 : MBuf (F := F) c s3) (g5 : MBuf (F := F) c s5)
  (g9 : MBuf (F := F) c s9)

/-- Row `e` of a two-axis table, as a one-row table. -/
def row2 {α : Type} {n k : ℕ} (f : (⟨2, ![n, k]⟩ : Shape).Idx → α) (e : Fin n) : (⟨2, ![1, k]⟩ : Shape).Idx → α :=
  fun i => f (ix2 e (i 1))
/-- Matrix `e` of a stack, as a stack of one. -/
def mat3 {α : Type} {n k l : ℕ} (f : (⟨3, ![n, k, l]⟩ : Shape).Idx → α) (e : Fin n) : (⟨3, ![1, k, l]⟩ : Shape).Idx → α :=
  fun i => f (ix3 e (i 1) (i 2))

/-- The staged activations are the operand. -/
theorem read_x : View.readAt (Elt F) s0.view (Rect.unit ![0, 0] S64x2048.size inb_S64x2048_S64x2048_0_0).toLoadRect
    (View.write (Elt F) (Memref.whole cc0_scratch0).view g0 (kernelRun.sl.dma0 c fx) Finset.univ) = (fx : Vec F S64x2048 .bf16) := by
  unfold kernelRun.sl.dma0
  funext i
  rw [View.readAt_apply, View.read_whole, View.write_whole_univ]
  show fx _ = fx i
  congr 1
  funext a; apply Fin.ext
  match a with
  | ⟨0, _⟩ => show 0 + 1 * (i 0).val = (i 0).val; omega
  | ⟨1, _⟩ => show 0 + 1 * (i 1).val = (i 1).val; omega

/-- The staged router weights are the operand. -/
theorem read_wr : View.readAt (Elt F) s1.view (Rect.unit ![0, 0] S4x2048.size inb_S4x2048_S4x2048_0_0).toLoadRect
    (View.write (Elt F) s1.view g1 (ReadAs.same.apply (View.read (Elt F) bWr.view fwr)) Finset.univ) = (fwr : Vec F S4x2048 .f32) := by
  funext i
  rw [View.readAt_apply, View.read_whole, View.write_whole_univ]
  show fwr _ = fwr i
  congr 1
  funext a; apply Fin.ext
  match a with
  | ⟨0, _⟩ => show 0 + 1 * (i 0).val = (i 0).val; omega
  | ⟨1, _⟩ => show 0 + 1 * (i 1).val = (i 1).val; omega

/-- A row of the staged scales of the first weights. -/
theorem read_gus (e : Fin 4) (inb : ∀ a, (![e.val, 0] : Fin 2 → ℕ) a + S1x2816.size a ≤ S4x2816.size a) :
    View.readAt (Elt F) s2.view (Rect.unit (s := S4x2816) ![e.val, 0] S1x2816.size inb).toLoadRect
    (View.write (Elt F) s2.view g2 (ReadAs.same.apply (View.read (Elt F) bGus.view fgus)) Finset.univ)
      = row2 (fgus : Vec F S4x2816 .f32) e := by
  funext i
  rw [View.readAt_apply, View.read_whole, View.write_whole_univ]
  show fgus _ = fgus _
  congr 1
  funext a; apply Fin.ext
  match a with
  | ⟨0, _⟩ => show e.val + 1 * (i 0).val = e.val; have : (i 0).val < 1 := (i 0).isLt; omega
  | ⟨1, _⟩ => show 0 + 1 * (i 1).val = (i 1).val; omega

/-- A row of the staged scales of the second weights. -/
theorem read_dns (e : Fin 4) (inb : ∀ a, (![e.val, 0] : Fin 2 → ℕ) a + S1x2048.size a ≤ S4x2048.size a) :
    View.readAt (Elt F) s3.view (Rect.unit (s := S4x2048) ![e.val, 0] S1x2048.size inb).toLoadRect
    (View.write (Elt F) s3.view g3 (ReadAs.same.apply (View.read (Elt F) bDns.view fdns)) Finset.univ)
      = row2 (fdns : Vec F S4x2048 .f32) e := by
  funext i
  rw [View.readAt_apply, View.read_whole, View.write_whole_univ]
  show fdns _ = fdns _
  congr 1
  funext a; apply Fin.ext
  match a with
  | ⟨0, _⟩ => show e.val + 1 * (i 0).val = e.val; have : (i 0).val < 1 := (i 0).isLt; omega
  | ⟨1, _⟩ => show 0 + 1 * (i 1).val = (i 1).val; omega

/-- Half of the last row of those scales. -/
theorem read_dns_half (o : ℕ) (ho : o + 1024 ≤ 2048) (inb : ∀ a, (![3, o] : Fin 2 → ℕ) a + S1x1024.size a ≤ S4x2048.size a) (i : S1x1024.Idx) :
    View.readAt (Elt F) s3.view (Rect.unit (s := S4x2048) ![3, o] S1x1024.size inb).toLoadRect
    (View.write (Elt F) s3.view g3 (ReadAs.same.apply (View.read (Elt F) bDns.view fdns)) Finset.univ) i
      = (fdns : Vec F S4x2048 .f32) (ix2 (3 : Fin 4) (⟨o + (i 1).val, by have : (i 1).val < 1024 := (i 1).isLt; omega⟩ : Fin 2048)) := by
  rw [View.readAt_apply, View.read_whole, View.write_whole_univ]
  show fdns _ = fdns _
  congr 1
  funext a; apply Fin.ext
  match a with
  | ⟨0, _⟩ => show 3 + 1 * (i 0).val = 3; have : (i 0).val < 1 := (i 0).isLt; omega
  | ⟨1, _⟩ => show o + 1 * (i 1).val = o + (i 1).val; omega

/-- A matrix of the staged first weights, stored by three copies, is the operand's. -/
theorem read_gu (e : Fin 4) (inb : ∀ a, (![e.val, 0, 0] : Fin 3 → ℕ) a + S1x2048x2816.size a ≤ S4x2048x2816.size a)
    (hw : ∀ i, ∃ p ∈ ([⟨Rect.unit ![3, 0, 0] S1x2048x2816.size inb_S4x2048x2816_S1x2048x2816_3_0_0, kernelRun.sl.dma0_3 c fgu⟩,
        ⟨Rect.unit ![2, 0, 0] S1x2048x2816.size inb_S4x2048x2816_S1x2048x2816_2_0_0, kernelRun.sl.dma0_2 c fgu⟩,
        ⟨Rect.unit ![0, 0, 0] S2x2048x2816.size inb_S4x2048x2816_S2x2048x2816_0_0_0, kernelRun.sl.dma0_1 c fgu⟩] : List (View.Piece (Elt F) S4x2048x2816 .fp8e4m3)),
      (Rect.unit (s := S4x2048x2816) ![e.val, 0, 0] S1x2048x2816.size inb).toLoadRect.idx i ∈ p.1.set) :
    s4.view.readCov
      [⟨Rect.unit ![3, 0, 0] S1x2048x2816.size inb_S4x2048x2816_S1x2048x2816_3_0_0, kernelRun.sl.dma0_3 c fgu⟩,
        ⟨Rect.unit ![2, 0, 0] S1x2048x2816.size inb_S4x2048x2816_S1x2048x2816_2_0_0, kernelRun.sl.dma0_2 c fgu⟩,
        ⟨Rect.unit ![0, 0, 0] S2x2048x2816.size inb_S4x2048x2816_S2x2048x2816_0_0_0, kernelRun.sl.dma0_1 c fgu⟩]
      (Rect.unit (s := S4x2048x2816) ![e.val, 0, 0] S1x2048x2816.size inb).toLoadRect
      = mat3 (fgu : Vec F S4x2048x2816 .fp8e4m3) e := by
  funext i
  unfold View.readCov
  rw [View.readAt_apply, View.read_writes_apply_of_pieces s4.view _ (fgu : Vec F S4x2048x2816 .fp8e4m3) _ _ _ (hw i)]
  · show fgu _ = fgu _
    congr 1
    funext a; apply Fin.ext
    match a with
    | ⟨0, _⟩ => show e.val + 1 * (i 0).val = e.val; have : (i 0).val < 1 := (i 0).isLt; omega
    | ⟨1, _⟩ => show 0 + 1 * (i 1).val = (i 1).val; omega
    | ⟨2, _⟩ => show 0 + 1 * (i 2).val = (i 2).val; omega
  · intro p hp
    simp only [List.mem_cons, List.mem_singleton, List.not_mem_nil, or_false] at hp
    rcases hp with rfl | rfl | rfl <;> intro x <;> rfl

/-- The load of expert 0's gate and up codes. -/
theorem v251_eq : kernelRun.sl.v251 c fgu = mat3 (fgu : Vec F S4x2048x2816 .fp8e4m3) 0 :=
  read_gu c fgu 0 _ fun i => ⟨_, .tail _ (.tail _ (.head _)), LoadRect.idx_mem_of_within (by dsimp only; decide) i⟩
/-- The load of expert 1's gate and up codes. -/
theorem v358_eq : kernelRun.sl.v358 c fgu = mat3 (fgu : Vec F S4x2048x2816 .fp8e4m3) 1 :=
  read_gu c fgu 1 _ fun i => ⟨_, .tail _ (.tail _ (.head _)), LoadRect.idx_mem_of_within (by dsimp only; decide) i⟩
/-- The load of expert 2's gate and up codes. -/
theorem v475_eq : kernelRun.sl.v475 c fgu = mat3 (fgu : Vec F S4x2048x2816 .fp8e4m3) 2 :=
  read_gu c fgu 2 _ fun i => ⟨_, .tail _ (.head _), LoadRect.idx_mem_of_within (by dsimp only; decide) i⟩
/-- The load of expert 3's gate and up codes. -/
theorem v592_eq : kernelRun.sl.v592 c fgu = mat3 (fgu : Vec F S4x2048x2816 .fp8e4m3) 3 :=
  read_gu c fgu 3 _ fun i => ⟨_, .head _, LoadRect.idx_mem_of_within (by dsimp only; decide) i⟩

/-- What the staged second weights hold: the operand on the first 2048 columns. -/
def G5 (f : Vec F S4x1408x2048 .fp8e4m3) : Vec F S4x1408x2176 .fp8e4m3 :=
  fun y => f (ix3 (y 0) (y 1) (⟨min (y 2).val 2047, by omega⟩ : Fin 2048))

/-- A copy of one matrix of the second weights into the staging buffer, as a piece. -/
theorem dn_piece (e : ℕ) (inb : ∀ a, (![e, 0, 0] : Fin 3 → ℕ) a + S1x1408x2048.size a ≤ S4x1408x2176.size a)
    (inb' : ∀ a, (![e, 0, 0] : Fin 3 → ℕ) a + S1x1408x2048.size a ≤ S4x1408x2048.size a) (h) (h') (f : MBuf (F := F) c s5) :
    View.write (Elt F) (((Memref.whole cc0_scratch5).slice (Rect.unit (s := S4x1408x2176) ![e, 0, 0] S1x1408x2048.size inb) h).squeeze
        S1408x2048 squeezes_S1x1408x2048_S1408x2048).view f
      (ReadAs.same.apply (View.read (Elt F) (((Memref.whole main_arg4).slice (Rect.unit (s := S4x1408x2048) ![e, 0, 0] S1x1408x2048.size inb') h').squeeze
        S1408x2048 squeezes_S1x1408x2048_S1408x2048).view fdn)) Finset.univ
      = s5.view.writes (Elt F) f [⟨Rect.unit (s := S4x1408x2176) ![e, 0, 0] S1x1408x2048.size inb,
          fun x => G5 (fdn : Vec F S4x1408x2048 .fp8e4m3) ((Rect.unit (s := S4x1408x2176) ![e, 0, 0] S1x1408x2048.size inb).emb x)⟩] := by
  refine (View.write_reshape_univ _ _ _ _).trans ?_
  rw [View.writes_singleton]
  refine congrArg (fun w => View.write (Elt F) (s5.view.slice (Rect.unit (s := S4x1408x2176) ![e, 0, 0] S1x1408x2048.size inb)) f w Finset.univ) ?_
  funext x
  show (fdn : Vec F S4x1408x2048 .fp8e4m3) ((Rect.unit (s := S4x1408x2048) ![e, 0, 0] S1x1408x2048.size inb').emb (Shape.reshapeEquiv _ ((Shape.reshapeEquiv _).symm x))) = _
  rw [Equiv.apply_symm_apply]
  unfold G5
  congr 1
  funext a; apply Fin.ext
  match a with
  | ⟨0, _⟩ => rfl
  | ⟨1, _⟩ => rfl
  | ⟨2, _⟩ =>
    show 0 + 1 * (x 2).val = min (0 + 1 * (x 2).val) 2047
    have : (x 2).val < 2048 := (x 2).isLt
    omega

/-- A copy of a column half of the last matrix, as a piece. -/
theorem dn_half (o : ℕ) (ho : o + 1024 ≤ 2048) (inb : ∀ a, (![3, 0, o] : Fin 3 → ℕ) a + S1x1408x1024.size a ≤ S4x1408x2176.size a)
    (inb' : ∀ a, (![3, 0, o] : Fin 3 → ℕ) a + S1x1408x1024.size a ≤ S4x1408x2048.size a) (h) (h') (f : MBuf (F := F) c s5) :
    View.write (Elt F) (((Memref.whole cc0_scratch5).slice (Rect.unit (s := S4x1408x2176) ![3, 0, o] S1x1408x1024.size inb) h).squeeze
        S1408x1024 squeezes_S1x1408x1024_S1408x1024).view f
      (ReadAs.same.apply (View.read (Elt F) (((Memref.whole main_arg4).slice (Rect.unit (s := S4x1408x2048) ![3, 0, o] S1x1408x1024.size inb') h').squeeze
        S1408x1024 squeezes_S1x1408x1024_S1408x1024).view fdn)) Finset.univ
      = s5.view.writes (Elt F) f [⟨Rect.unit (s := S4x1408x2176) ![3, 0, o] S1x1408x1024.size inb,
          fun x => G5 (fdn : Vec F S4x1408x2048 .fp8e4m3) ((Rect.unit (s := S4x1408x2176) ![3, 0, o] S1x1408x1024.size inb).emb x)⟩] := by
  refine (View.write_reshape_univ _ _ _ _).trans ?_
  rw [View.writes_singleton]
  refine congrArg (fun w => View.write (Elt F) (s5.view.slice (Rect.unit (s := S4x1408x2176) ![3, 0, o] S1x1408x1024.size inb)) f w Finset.univ) ?_
  funext x
  show (fdn : Vec F S4x1408x2048 .fp8e4m3) ((Rect.unit (s := S4x1408x2048) ![3, 0, o] S1x1408x1024.size inb').emb (Shape.reshapeEquiv _ ((Shape.reshapeEquiv _).symm x))) = _
  rw [Equiv.apply_symm_apply]
  unfold G5
  congr 1
  funext a; apply Fin.ext
  match a with
  | ⟨0, _⟩ => rfl
  | ⟨1, _⟩ => rfl
  | ⟨2, _⟩ =>
    show o + 1 * (x 2).val = min (o + 1 * (x 2).val) 2047
    have : (x 2).val < 1024 := (x 2).isLt
    omega

/-- A load of the staging buffer inside one of its pieces. -/
theorem read_pieces (f : MBuf (F := F) c s5) (L : List (View.Piece (Elt F) S4x1408x2176 .fp8e4m3)) (B : LoadRect S4x1408x2176)
    (hL : ∀ p ∈ L, ∀ x : p.1.shape.Idx, p.2 x = G5 (fdn : Vec F S4x1408x2048 .fp8e4m3) (p.1.emb x))
    (hB : ∀ i, ∃ p ∈ L, B.idx i ∈ p.1.set) (i : B.shape.Idx) :
    View.readAt (Elt F) s5.view B (s5.view.writes (Elt F) f L) i = G5 (fdn : Vec F S4x1408x2048 .fp8e4m3) (B.idx i) := by
  rw [View.readAt_apply, View.read_writes_apply_of_pieces s5.view _ _ _ hL _ (hB i)]

/-- The load of expert 0's down codes. -/
theorem v712_eq : kernelRun.sl.v712 c fdn g5 = mat3 (fdn : Vec F S4x1408x2048 .fp8e4m3) 0 := by
  unfold kernelRun.sl.v712 kernelRun.sl.dma4 kernelRun.sl.dma14 kernelRun.sl.dma19 kernelRun.sl.dma24
  funext i
  rw [dn_piece c fdn 0, dn_piece c fdn 1, dn_piece c fdn 2, dn_half c fdn 0 (by omega), ← View.writes_append, ← View.writes_append, ← View.writes_append]
  refine (read_pieces c fdn _ _ _ (by
    intro p hp
    have hq : p ∈ [_, _, _, _] := hp
    simp only [List.mem_cons, List.not_mem_nil, or_false] at hq
    rcases hq with rfl | rfl | rfl | rfl <;> intro x <;> rfl) (fun i => ⟨_, .tail _ (.tail _ (.tail _ (.head _))), LoadRect.idx_mem_of_within (by dsimp only; decide) i⟩) i).trans ?_
  unfold G5 mat3
  congr 1
  funext a; apply Fin.ext
  match a with
  | ⟨0, _⟩ => show 0 + 1 * (i 0).val = 0; have : (i 0).val < 1 := (i 0).isLt; omega
  | ⟨1, _⟩ => show 0 + 1 * (i 1).val = (i 1).val; omega
  | ⟨2, _⟩ => show min (0 + 1 * (i 2).val) 2047 = (i 2).val; have : (i 2).val < 2048 := (i 2).isLt; omega

/-- The load of expert 1's down codes. -/
theorem v743_eq : kernelRun.sl.v743 c fdn g5 = mat3 (fdn : Vec F S4x1408x2048 .fp8e4m3) 1 := by
  unfold kernelRun.sl.v743 kernelRun.sl.dma4 kernelRun.sl.dma14 kernelRun.sl.dma19 kernelRun.sl.dma24 kernelRun.sl.dma29
  funext i
  rw [dn_piece c fdn 0, dn_piece c fdn 1, dn_piece c fdn 2, dn_half c fdn 0 (by omega), dn_half c fdn 1024 (by omega),
    ← View.writes_append, ← View.writes_append, ← View.writes_append, ← View.writes_append]
  refine (read_pieces c fdn _ _ _ (by
    intro p hp
    have hq : p ∈ [_, _, _, _, _] := hp
    simp only [List.mem_cons, List.not_mem_nil, or_false] at hq
    rcases hq with rfl | rfl | rfl | rfl | rfl <;> intro x <;> rfl) (fun i => ⟨_, .tail _ (.tail _ (.tail _ (.head _))), LoadRect.idx_mem_of_within (by dsimp only; decide) i⟩) i).trans ?_
  unfold G5 mat3
  congr 1
  funext a; apply Fin.ext
  match a with
  | ⟨0, _⟩ => show 1 + 1 * (i 0).val = 1; have : (i 0).val < 1 := (i 0).isLt; omega
  | ⟨1, _⟩ => show 0 + 1 * (i 1).val = (i 1).val; omega
  | ⟨2, _⟩ => show min (0 + 1 * (i 2).val) 2047 = (i 2).val; have : (i 2).val < 2048 := (i 2).isLt; omega

/-- The load of expert 2's down codes. -/
theorem v770_eq : kernelRun.sl.v770 c fdn g5 = mat3 (fdn : Vec F S4x1408x2048 .fp8e4m3) 2 := by
  unfold kernelRun.sl.v770 kernelRun.sl.dma4 kernelRun.sl.dma14 kernelRun.sl.dma19 kernelRun.sl.dma24 kernelRun.sl.dma29
  funext i
  rw [dn_piece c fdn 0, dn_piece c fdn 1, dn_piece c fdn 2, dn_half c fdn 0 (by omega), dn_half c fdn 1024 (by omega),
    ← View.writes_append, ← View.writes_append, ← View.writes_append, ← View.writes_append]
  refine (read_pieces c fdn _ _ _ (by
    intro p hp
    have hq : p ∈ [_, _, _, _, _] := hp
    simp only [List.mem_cons, List.not_mem_nil, or_false] at hq
    rcases hq with rfl | rfl | rfl | rfl | rfl <;> intro x <;> rfl) (fun i => ⟨_, .tail _ (.tail _ (.head _)), LoadRect.idx_mem_of_within (by dsimp only; decide) i⟩) i).trans ?_
  unfold G5 mat3
  congr 1
  funext a; apply Fin.ext
  match a with
  | ⟨0, _⟩ => show 2 + 1 * (i 0).val = 2; have : (i 0).val < 1 := (i 0).isLt; omega
  | ⟨1, _⟩ => show 0 + 1 * (i 1).val = (i 1).val; omega
  | ⟨2, _⟩ => show min (0 + 1 * (i 2).val) 2047 = (i 2).val; have : (i 2).val < 2048 := (i 2).isLt; omega

/-- The load of the left columns of expert 3's down codes. -/
theorem v797_eq : kernelRun.sl.v797 c fdn g5 = fun i : S1x1408x1024.Idx => (fdn : Vec F S4x1408x2048 .fp8e4m3) (ix3 3 (i 1) (⟨0 + (i 2).val, by have : (i 2).val < 1024 := (i 2).isLt; omega⟩ : Fin 2048)) := by
  unfold kernelRun.sl.v797 kernelRun.sl.dma4 kernelRun.sl.dma14 kernelRun.sl.dma19 kernelRun.sl.dma24 kernelRun.sl.dma29
  funext i
  rw [dn_piece c fdn 0, dn_piece c fdn 1, dn_piece c fdn 2, dn_half c fdn 0 (by omega), dn_half c fdn 1024 (by omega),
    ← View.writes_append, ← View.writes_append, ← View.writes_append, ← View.writes_append]
  refine (read_pieces c fdn _ _ _ (by
    intro p hp
    have hq : p ∈ [_, _, _, _, _] := hp
    simp only [List.mem_cons, List.not_mem_nil, or_false] at hq
    rcases hq with rfl | rfl | rfl | rfl | rfl <;> intro x <;> rfl) (fun i => ⟨_, .tail _ (.head _), LoadRect.idx_mem_of_within (by dsimp only; decide) i⟩) i).trans ?_
  unfold G5
  congr 1
  funext a; apply Fin.ext
  match a with
  | ⟨0, _⟩ => show 3 + 1 * (i 0).val = 3; have : (i 0).val < 1 := (i 0).isLt; omega
  | ⟨1, _⟩ => show 0 + 1 * (i 1).val = (i 1).val; omega
  | ⟨2, _⟩ => show min (0 + 1 * (i 2).val) 2047 = 0 + (i 2).val; have : (i 2).val < 1024 := (i 2).isLt; omega

/-- The load of the right columns of expert 3's down codes. -/
theorem v827_eq : kernelRun.sl.v827 c fdn g5 = fun i : S1x1408x1024.Idx => (fdn : Vec F S4x1408x2048 .fp8e4m3) (ix3 3 (i 1) (⟨1024 + (i 2).val, by have : (i 2).val < 1024 := (i 2).isLt; omega⟩ : Fin 2048)) := by
  unfold kernelRun.sl.v827 kernelRun.sl.dma4 kernelRun.sl.dma14 kernelRun.sl.dma19 kernelRun.sl.dma24 kernelRun.sl.dma29
  funext i
  rw [dn_piece c fdn 0, dn_piece c fdn 1, dn_piece c fdn 2, dn_half c fdn 0 (by omega), dn_half c fdn 1024 (by omega),
    ← View.writes_append, ← View.writes_append, ← View.writes_append, ← View.writes_append]
  refine (read_pieces c fdn _ _ _ (by
    intro p hp
    have hq : p ∈ [_, _, _, _, _] := hp
    simp only [List.mem_cons, List.not_mem_nil, or_false] at hq
    rcases hq with rfl | rfl | rfl | rfl | rfl <;> intro x <;> rfl) (fun i => ⟨_, .head _, LoadRect.idx_mem_of_within (by dsimp only; decide) i⟩) i).trans ?_
  unfold G5
  congr 1
  funext a; apply Fin.ext
  match a with
  | ⟨0, _⟩ => show 3 + 1 * (i 0).val = 3; have : (i 0).val < 1 := (i 0).isLt; omega
  | ⟨1, _⟩ => show 0 + 1 * (i 1).val = (i 1).val; omega
  | ⟨2, _⟩ => show min (1024 + 1 * (i 2).val) 2047 = 1024 + (i 2).val; have : (i 2).val < 1024 := (i 2).isLt; omega

/-- The codes of `x`, read back from the buffer they were stored in. -/
theorem v250_eq : kernelRun.sl.v250 c fx g0 =
    k0_pay10 (kernelRun.sl.r c fx g0) (kernelRun.sl.r_1 c fx g0) (kernelRun.sl.r_2 c fx g0) (kernelRun.sl.r_3 c fx g0) := by
  unfold kernelRun.sl.v250 kernelRun.sl.Hs6_1
  exact View.readCov_cons_toLoadRect _ _ _ _

/-- The codes of the four hidden layers, each read back from its slot. -/
theorem v795_eq : kernelRun.sl.v795 c fx fgu fgus g0 g2 =
    k0_pay74 (kernelRun.sl.r_53 c fx fgu fgus g0 g2) (kernelRun.sl.r_54 c fx fgu fgus g0 g2) (kernelRun.sl.r_55 c fx fgu fgus g0 g2)
      (kernelRun.sl.r_56 c fx fgu fgus g0 g2) 23#32 := by
  unfold kernelRun.sl.v795 kernelRun.sl.Hs7_4
  exact View.readCov_cons_toLoadRect _ _ _ _
/-- Expert 2's codes, read back from their slot. -/
theorem v768_eq : kernelRun.sl.v768 c fx fgu fgus g0 g2 = k0_pay67 (kernelRun.sl.r_51 c fx fgu fgus g0 g2) := by
  unfold kernelRun.sl.v768 kernelRun.sl.Hs7_4
  rw [View.readCov_skip _ _ _ _ _ (by decide)]
  exact View.readCov_cons_toLoadRect _ _ _ _
/-- Expert 1's codes, read back from their slot. -/
theorem v741_eq : kernelRun.sl.v741 c fx fgu fgus g0 g2 = k0_pay57 (kernelRun.sl.r_42 c fx fgu fgus g0 g2) := by
  unfold kernelRun.sl.v741 kernelRun.sl.Hs7_4
  rw [View.readCov_skip _ _ _ _ _ (by decide), View.readCov_skip _ _ _ _ _ (by decide)]
  exact View.readCov_cons_toLoadRect _ _ _ _
/-- Expert 0's codes, read back from their slot. -/
theorem v710_eq : kernelRun.sl.v710 c fx fgu fgus g0 g2 =
    k0_pay45 (kernelRun.sl.r_27 c fx fgu fgus g0 g2) (kernelRun.sl.r_32 c fx fgu fgus g0 g2) (kernelRun.sl.r_33 c fx fgu fgus g0 g2) k0_pay42 := by
  unfold kernelRun.sl.v710 kernelRun.sl.Hs7_4
  rw [View.readCov_skip _ _ _ _ _ (by decide), View.readCov_skip _ _ _ _ _ (by decide), View.readCov_skip _ _ _ _ _ (by decide)]
  exact View.readCov_cons_toLoadRect _ _ _ _

/-- The running sum over the experts, read back whole after the first expert. -/
theorem v757_eq : kernelRun.sl.v757 c fx fwr fgu fgus fdn fdns g0 g1 g2 g3 g5 =
    k0_pay75 (kernelRun.sl.r_19 c fx fwr g0 g1) (kernelRun.sl.r_20 c fx fwr g0 g1)
      (kernelRun.sl.r_34 c fx fgu fgus g0 g2) (kernelRun.sl.v710 c fx fgu fgus g0 g2) (kernelRun.sl.v712 c fdn g5)
      (row2 (fdns : Vec F S4x2048 .f32) 0) := by
  unfold kernelRun.sl.v757 kernelRun.sl.Hs8_1
  refine (View.readCov_cons_toLoadRect _ _ _ _).trans ?_
  exact congrArg (k0_pay75 _ _ _ _ _) (read_dns c fdns g3 0 _)
/-- The running sum read back whole after the second expert. -/
theorem v784_eq : kernelRun.sl.v784 c fx fwr fgu fgus fdn fdns g0 g1 g2 g3 g5 = k0_pay77 (kernelRun.sl.r_58 c fx fwr fgu fgus fdn fdns g0 g1 g2 g3 g5) := by
  unfold kernelRun.sl.v784 kernelRun.sl.Hs8_2
  exact View.readCov_cons_toLoadRect _ _ _ _

/-- The running sum after the third expert. -/
def sum3 : Vec F S64x2048 .f32 :=
    k0_pay78 (kernelRun.sl.r_23 c fx fwr g0 g1) (kernelRun.sl.r_24 c fx fwr g0 g1)
      (kernelRun.sl.r_52 c fx fgu fgus g0 g2) (kernelRun.sl.v768 c fx fgu fgus g0 g2) (kernelRun.sl.v770 c fdn g5)
      (row2 (fdns : Vec F S4x2048 .f32) 2) (kernelRun.sl.v784 c fx fwr fgu fgus fdn fdns g0 g1 g2 g3 g5)
/-- The running sum is read back by column halves after the third expert. -/
theorem v811_eq : kernelRun.sl.v811 c fx fwr fgu fgus fdn fdns g0 g1 g2 g3 g5 = View.ld (sum3 c fx fwr fgu fgus fdn fdns g0 g1 g2 g3 g5) (Rect.unit (s := S64x2048) ![0, 0] S64x1024.size inb_S64x2048_S64x1024_0_0) := by
  unfold kernelRun.sl.v811 kernelRun.sl.Hs8_3 sum3
  rw [← read_dns c fdns g3 2 inb_S4x2048_S1x2048_2_0]
  exact View.readCov_fill _ _ _ _ _ (by decide)
/-- The right half of the running sum, read back after the third expert. -/
theorem v841_eq : kernelRun.sl.v841 c fx fwr fgu fgus fdn fdns g0 g1 g2 g3 g5 = View.ld (sum3 c fx fwr fgu fgus fdn fdns g0 g1 g2 g3 g5) (Rect.unit (s := S64x2048) ![0, 1024] S64x1024.size inb_S64x2048_S64x1024_0_1024) := by
  unfold kernelRun.sl.v841 kernelRun.sl.Hs8_3 sum3
  rw [← read_dns c fdns g3 2 inb_S4x2048_S1x2048_2_0]
  exact View.readCov_fill _ _ _ _ _ (by decide)

/-- The left half of the result as it is copied out. -/
theorem dma59_eq : kernelRun.sl.dma59 c fx fwr fgu fgus fdn fdns g0 g1 g2 g3 g5 g9 =
    k0_pay79 (kernelRun.sl.r_25 c fx fwr g0 g1) (kernelRun.sl.r_26 c fx fwr g0 g1)
      (kernelRun.sl.r_57 c fx fgu fgus g0 g2) (kernelRun.sl.v795 c fx fgu fgus g0 g2) (kernelRun.sl.v797 c fdn g5)
      (fun i => (fdns : Vec F S4x2048 .f32) (ix2 3 (⟨0 + (i 1).val, by have : (i 1).val < 1024 := (i 1).isLt; omega⟩ : Fin 2048)))
      (kernelRun.sl.v811 c fx fwr fgu fgus fdn fdns g0 g1 g2 g3 g5) := by
  unfold kernelRun.sl.dma59 kernelRun.sl.Hs9_1
  refine Eq.trans (funext fun x => ?_) (congrArg (fun z => k0_pay79 _ _ _ _ _ z _) (funext (read_dns_half c fdns g3 0 (by omega) inb_S4x2048_S1x1024_3_0)))
  exact View.read_writes_cons_hit_of_coords s9.view g9 (Rect.unit (s := S64x2048) ![0, 0] S64x1024.size inb_S64x2048_S64x1024_0_0) _ [] x
    ((Rect.unit (s := S64x2048) ![0, 0] S64x1024.size inb_S64x2048_S64x1024_0_0).emb x) (fun a => rfl)
/-- The right half of the result as it is copied out. -/
theorem dma66_eq : kernelRun.sl.dma66 c fx fwr fgu fgus fdn fdns g0 g1 g2 g3 g5 g9 =
    k0_pay80 (kernelRun.sl.r_25 c fx fwr g0 g1) (kernelRun.sl.r_26 c fx fwr g0 g1)
      (kernelRun.sl.r_57 c fx fgu fgus g0 g2) (kernelRun.sl.v795 c fx fgu fgus g0 g2) (kernelRun.sl.v827 c fdn g5)
      (fun i => (fdns : Vec F S4x2048 .f32) (ix2 3 (⟨1024 + (i 1).val, by have : (i 1).val < 1024 := (i 1).isLt; omega⟩ : Fin 2048)))
      (kernelRun.sl.v841 c fx fwr fgu fgus fdn fdns g0 g1 g2 g3 g5) := by
  unfold kernelRun.sl.dma66 kernelRun.sl.Hs9_2
  refine Eq.trans (funext fun x => ?_) (congrArg (fun z => k0_pay80 _ _ _ _ _ z _) (funext (read_dns_half c fdns g3 1024 (by omega) inb_S4x2048_S1x1024_3_1024)))
  exact View.read_writes_cons_hit_of_coords s9.view g9 (Rect.unit (s := S64x2048) ![0, 1024] S64x1024.size inb_S64x2048_S64x1024_0_1024) _ _ x
    ((Rect.unit (s := S64x2048) ![0, 1024] S64x1024.size inb_S64x2048_S64x1024_0_1024).emb x) (fun a => rfl)

end Cert.KernelIdeal.Hand
-- ==== Proof.Quant.lean ====
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.Quant

open Idealize.ShloMosaic

/-- The extended real of the word whose exponent field is `k` and whose other bits are clear. -/
def thr (k : ℕ) : EReal := Ideal.ofBits .f32 (BitVec.ofNat 32 k <<< 23)

/-- An exponent field of zero is the number zero. -/
theorem thr_zero : thr 0 = 0 := by
  simp [thr, Ideal.ofBits, Ideal.ieee]

/-- The full exponent field is plus infinity. -/
theorem thr_top : thr 255 = ⊤ := by
  simp [thr, Ideal.ofBits, Ideal.ieee]

/-- The sign bit and a full exponent field: minus infinity. -/
theorem thr_bot : Ideal.ofBits .f32 (0xFFFFFFFF#32 <<< 23) = ⊥ := by
  simp [Ideal.ofBits, Ideal.ieee]

/-- The sign, the exponent field and the fraction of a threshold's word. -/
theorem field_of (k : Fin 255) (h : k.val ≠ 0) :
    ((BitVec.ofNat 32 k.val <<< 23).extractLsb' 31 1 == 1#1) = false ∧
    ((BitVec.ofNat 32 k.val <<< 23).extractLsb' 23 8).toNat = k.val ∧
    ((BitVec.ofNat 32 k.val <<< 23).extractLsb' 0 23).toNat = 0 := by
  revert k; decide +kernel

/-- The pattern's significand and exponent combine to one power. -/
theorem sig_pow (k : ℕ) : ((-1 : ℝ) ^ 0 * (((2 ^ 23 + 0 : ℕ)) : ℝ) * (2 : ℝ) ^ ((k : ℤ) - (2 ^ (8 - 1) - 1) - (23 : ℕ))) = (2 : ℝ) ^ ((k : ℤ) - 127) := by
  rw [pow_zero, one_mul, show ((2 ^ 23 + 0 : ℕ) : ℝ) = (2 : ℝ) ^ (23 : ℤ) by norm_num, ← zpow_add₀ two_ne_zero]
  norm_num

/-- A normal exponent field is a power of two. -/
theorem thr_val (k : ℕ) (h1 : 1 ≤ k) (h2 : k ≤ 254) : thr k = (((2 : ℝ) ^ ((k : ℤ) - 127) : ℝ) : EReal) := by
  obtain ⟨ha, hb, hc⟩ := field_of ⟨k, by omega⟩ (by show k ≠ 0; omega)
  simp only at ha hb hc
  unfold thr Ideal.ofBits Ideal.ieee
  simp only [ha, hb, hc]
  rw [if_neg (by norm_num; omega), if_neg (by omega)]
  have := sig_pow k
  rw [pow_zero] at this
  exact congrArg _ this

/-- The powers increase with the field. -/
theorem thr_mono {a b : ℕ} (h1 : 1 ≤ a) (hab : a ≤ b) (h2 : b ≤ 255) : thr a ≤ thr b := by
  by_cases hb : b = 255
  · subst hb; rw [thr_top]; exact le_top
  · rw [thr_val a h1 (by omega), thr_val b (by omega) (by omega)]
    exact EReal.coe_le_coe_iff.mpr (zpow_le_zpow_right₀ (by norm_num) (by omega))

/-- Every extended real has an exponent field: the number of powers it reaches. -/
theorem exists_field (t : EReal) : ∃ n ≤ 255, ∀ k, 1 ≤ k → k ≤ 255 → (thr k ≤ t ↔ k ≤ n) := by
  classical
  refine ⟨Nat.findGreatest (fun k => thr k ≤ t) 255, Nat.findGreatest_le 255, fun k h1 h2 => ⟨fun h => ?_, fun h => ?_⟩⟩
  · exact Nat.le_findGreatest h2 h
  · have hne : Nat.findGreatest (fun k => thr k ≤ t) 255 ≠ 0 := by omega
    have := Nat.findGreatest_of_ne_zero (P := fun k => thr k ≤ t) rfl hne
    exact le_trans (thr_mono h1 h (Nat.findGreatest_le 255)) this

/-- One rung of the kernel's ladder: raise the word by `b` when the power it then names is reached. -/
def rung (t : EReal) (b w : BitVec 32) : BitVec 32 :=
  Scalar.select (Ideal.cmp .oge t (Ideal.ofBits .f32 (IntOp.shli .vector (IntOp.addi w b) 23#32))) (IntOp.addi w b) w

/-- A rung on words is the step on numbers, `n` being the number of thresholds reached. -/
theorem rung_eq (t : EReal) (n b m : ℕ) (hn : ∀ k, 1 ≤ k → k ≤ 255 → (thr k ≤ t ↔ k ≤ n)) (h1 : 1 ≤ b) (h2 : m + b ≤ 255) :
    rung t (BitVec.ofNat 32 b) (BitVec.ofNat 32 m) = BitVec.ofNat 32 (if m + b ≤ n then m + b else m) := by
  have hadd : IntOp.addi (BitVec.ofNat 32 m) (BitVec.ofNat 32 b) = BitVec.ofNat 32 (m + b) := by
    show BitVec.ofNat 32 m + BitVec.ofNat 32 b = _
    rw [← BitVec.ofNat_add]
  have hs : IntOp.shli .vector (BitVec.ofNat 32 (m + b)) 23#32 = BitVec.ofNat 32 (m + b) <<< 23 := rfl
  unfold rung
  rw [hadd, hs]
  show Scalar.select (BitVec.ofBool (decide (thr (m + b) ≤ t))) _ _ = _
  by_cases h : m + b ≤ n
  · rw [if_pos h, decide_eq_true ((hn _ (by omega) h2).mpr h)]; rfl
  · rw [if_neg h, decide_eq_false (fun h' => h ((hn _ (by omega) h2).mp h'))]; rfl

/-- The first six rungs. -/
def ladder6 (t : EReal) : BitVec 32 :=
  rung t 4#32 (rung t 8#32 (rung t 16#32 (rung t 32#32 (rung t 64#32 (rung t 128#32 0#32)))))

/-- The kernel's exponent field of a row. -/
def ladder (t : EReal) : BitVec 32 := rung t 1#32 (rung t 2#32 (ladder6 t))

/-- One rung on numbers: raise `m` by `b` when that stays within `n`. -/
def stepN (n b m : ℕ) : ℕ := if m + b ≤ n then m + b else m

/-- The eight steps find any number below 256. -/
theorem stepN_all : ∀ n : Fin 256,
    stepN n.val 1 (stepN n.val 2 (stepN n.val 4 (stepN n.val 8 (stepN n.val 16 (stepN n.val 32 (stepN n.val 64 (stepN n.val 128 0))))))) = n.val := by
  decide +kernel

/-- A step stays within any bound of the raised number. -/
theorem stepN_le (n b m B : ℕ) (h : m + b ≤ B) : stepN n b m ≤ B := by unfold stepN; split <;> omega

/-- The ladder finds the field. -/
theorem ladder_eq (t : EReal) (n : ℕ) (hn255 : n ≤ 255) (hn : ∀ k, 1 ≤ k → k ≤ 255 → (thr k ≤ t ↔ k ≤ n)) :
    ladder t = BitVec.ofNat 32 n := by
  have s : ∀ b m : ℕ, 1 ≤ b → m + b ≤ 255 → ∃ m', m' = stepN n b m ∧ m' ≤ m + b ∧ rung t (BitVec.ofNat 32 b) (BitVec.ofNat 32 m) = BitVec.ofNat 32 m' :=
    fun b m h1 h2 => ⟨_, rfl, stepN_le _ _ _ _ (le_refl _), rung_eq t n b m hn h1 h2⟩
  obtain ⟨m0, h0, l0, e0⟩ := s 128 0 (by omega) (by omega)
  obtain ⟨m1, h1, l1, e1⟩ := s 64 m0 (by omega) (by omega)
  obtain ⟨m2, h2, l2, e2⟩ := s 32 m1 (by omega) (by omega)
  obtain ⟨m3, h3, l3, e3⟩ := s 16 m2 (by omega) (by omega)
  obtain ⟨m4, h4, l4, e4⟩ := s 8 m3 (by omega) (by omega)
  obtain ⟨m5, h5, l5, e5⟩ := s 4 m4 (by omega) (by omega)
  obtain ⟨m6, h6, l6, e6⟩ := s 2 m5 (by omega) (by omega)
  obtain ⟨m7, h7, l7, e7⟩ := s 1 m6 (by omega) (by omega)
  unfold ladder ladder6
  rw [e0, e1, e2, e3, e4, e5, e6, e7, h7, h6, h5, h4, h3, h2, h1, h0]
  exact congrArg _ (stepN_all ⟨n, by omega⟩)

/-- The kernel's exponent: the field less 126, zero where the field is 0 or 255. -/
def kExp (t : EReal) : BitVec 32 :=
  Scalar.select (IntOp.ori (IntOp.cmpi .eq (ladder t) 0#32) (IntOp.cmpi .eq (ladder t) 255#32)) 0#32 (IntOp.subi (ladder t) 126#32)
/-- The kernel's scale. -/
def kScale (t : EReal) : EReal := Ideal.ofBits .f32 (IntOp.shli .vector (IntOp.addi (kExp t) 127#32) 23#32)
/-- The kernel's inverse scale. -/
def kInv (t : EReal) : EReal := Ideal.ofBits .f32 (IntOp.shli .vector (IntOp.addi (IntOp.subi 0#32 (kExp t)) 127#32) 23#32)

/-- The reference's exponent: the number of powers reached less 126, zero below the least normal power and at infinity. -/
def rExp (t : EReal) : EReal :=
  Scalar.select (IntOp.ori (Ideal.cmp .olt t (Ideal.ofBits .f32 0x00800000#32)) (Ideal.cmp .oge t (Ideal.ofBits .f32 0x7F800000#32)))
    (Ideal.ofBits .f32 0x00000000#32)
    ((∑ k : Fin 254, Scalar.select (Ideal.cmp .ole (Ideal.exp2 (((IntOp.subi (BitVec.ofNat 32 k.val) 126#32).toInt : ℝ) : EReal)) t)
        (Ideal.ofBits .f32 0x3F800000#32) (Ideal.ofBits .f32 0x00000000#32)) - Ideal.ofBits .f32 0x42FC0000#32)
/-- The reference's scale. -/
def rScale (t : EReal) : EReal :=
  Scalar.select (Ideal.cmp .oeq (rExp t) (Ideal.ofBits .f32 0x43000000#32)) (Ideal.ofBits .f32 0x7F800000#32) (Ideal.exp2 (rExp t))
/-- The reference's inverse scale. -/
def rInv (t : EReal) : EReal :=
  Scalar.select (Ideal.cmp .oeq (rExp t) (Ideal.ofBits .f32 0x43000000#32)) (Ideal.ofBits .f32 0xFF800000#32)
    (Scalar.select (Ideal.cmp .oeq (rExp t) (Ideal.ofBits .f32 0x42FE0000#32)) (Ideal.ofBits .f32 0x00000000#32)
      (Ideal.exp2 (Ideal.ofBits .f32 0x00000000#32 - rExp t)))

/-- The word of 0. -/
theorem c0 : Ideal.ofBits .f32 0x00000000#32 = 0 := by simp [Ideal.ofBits, Ideal.ieee]
/-- The word of 1. -/
theorem c1 : Ideal.ofBits .f32 0x3F800000#32 = 1 := by
  rw [show (1 : EReal) = ((1 : ℝ) : EReal) by norm_cast]
  simp [Ideal.ofBits, Ideal.ieee, -EReal.coe_mul]; norm_num
/-- The word of the least normal number. -/
theorem cMin : Ideal.ofBits .f32 0x00800000#32 = thr 1 := rfl
/-- The word of plus infinity. -/
theorem cTop : Ideal.ofBits .f32 0x7F800000#32 = ⊤ := thr_top
/-- The word of minus infinity. -/
theorem cBot : Ideal.ofBits .f32 0xFF800000#32 = ⊥ := thr_bot
/-- The word of 126. -/
theorem c126 : Ideal.ofBits .f32 0x42FC0000#32 = ((126 : ℝ) : EReal) := by
  simp [Ideal.ofBits, Ideal.ieee, -EReal.coe_mul]; norm_num
/-- The word of 127. -/
theorem c127 : Ideal.ofBits .f32 0x42FE0000#32 = ((127 : ℝ) : EReal) := by
  simp [Ideal.ofBits, Ideal.ieee, -EReal.coe_mul]; norm_num
/-- The word of 128. -/
theorem c128 : Ideal.ofBits .f32 0x43000000#32 = ((128 : ℝ) : EReal) := by
  simp [Ideal.ofBits, Ideal.ieee, -EReal.coe_mul]; norm_num

/-- A selection whose condition holds. -/
theorem sel_t {α : Type} (p : Prop) [Decidable p] (h : p) (a b : α) : Scalar.select (BitVec.ofBool (decide p)) a b = a := by
  rw [decide_eq_true h]; rfl
/-- A selection whose condition fails. -/
theorem sel_f {α : Type} (p : Prop) [Decidable p] (h : ¬ p) (a b : α) : Scalar.select (BitVec.ofBool (decide p)) a b = b := by
  rw [decide_eq_false h]; rfl

/-- Two to an integer power, as `exp2`. -/
theorem exp2_int (z : ℤ) : Ideal.exp2 ((z : ℝ) : EReal) = (((2 : ℝ) ^ z : ℝ) : EReal) := by
  rw [Ideal.exp2_coe]; congr 1; exact Real.rpow_intCast 2 z

/-- The reference's exponent number `k`. -/
theorem sub126 (k : Fin 254) : (IntOp.subi (BitVec.ofNat 32 k.val) 126#32).toInt = (k.val : ℤ) - 126 := by
  revert k; decide +kernel

/-- The reference's threshold number `k` is the power of field `k + 1`. -/
theorem pow_thr (k : Fin 254) : Ideal.exp2 (((IntOp.subi (BitVec.ofNat 32 k.val) 126#32).toInt : ℝ) : EReal) = thr (k.val + 1) := by
  rw [sub126, exp2_int, thr_val _ (by omega) (by omega)]
  congr 2; push_cast; ring

/-- How many thresholds lie within `n`. -/
theorem card_le (n : ℕ) (h : n ≤ 254) : (Finset.univ.filter fun k : Fin 254 => k.val + 1 ≤ n).card = n := by
  rw [Finset.filter_congr (q := fun k : Fin 254 => k.val < n) (fun _ _ => Nat.succ_le_iff), Fin.card_filter_val_lt]
  exact Nat.min_eq_right h

/-- The count of reached thresholds is the field. -/
theorem count_eq (t : EReal) (n : ℕ) (hn254 : n ≤ 254) (hn : ∀ k, 1 ≤ k → k ≤ 255 → (thr k ≤ t ↔ k ≤ n)) :
    (∑ k : Fin 254, Scalar.select (Ideal.cmp .ole (Ideal.exp2 (((IntOp.subi (BitVec.ofNat 32 k.val) 126#32).toInt : ℝ) : EReal)) t)
        (Ideal.ofBits .f32 0x3F800000#32) (Ideal.ofBits .f32 0x00000000#32)) = ((n : ℝ) : EReal) := by
  have : ∀ k : Fin 254, Scalar.select (Ideal.cmp .ole (Ideal.exp2 (((IntOp.subi (BitVec.ofNat 32 k.val) 126#32).toInt : ℝ) : EReal)) t)
        (Ideal.ofBits .f32 0x3F800000#32) (Ideal.ofBits .f32 0x00000000#32) = if k.val + 1 ≤ n then (1 : EReal) else 0 := by
    intro k
    rw [pow_thr, c1, c0]
    show Scalar.select (BitVec.ofBool (decide (thr (k.val + 1) ≤ t))) _ _ = _
    by_cases h : k.val + 1 ≤ n
    · rw [if_pos h, sel_t _ ((hn _ (by omega) (by omega)).mpr h)]
    · rw [if_neg h, sel_f _ (fun h' => h ((hn _ (by omega) (by omega)).mp h'))]
  rw [Finset.sum_congr rfl fun k _ => this k, Finset.sum_boole, card_le n hn254]
  simp

/-- The two special fields, in the kernel. -/
theorem kExp_eq (t : EReal) (n : ℕ) (hn255 : n ≤ 255) (hn : ∀ k, 1 ≤ k → k ≤ 255 → (thr k ≤ t ↔ k ≤ n)) :
    kExp t = if n = 0 ∨ n = 255 then 0#32 else BitVec.ofNat 32 n - 126#32 := by
  unfold kExp
  rw [ladder_eq t n hn255 hn]
  have : ∀ n : Fin 256, Scalar.select (IntOp.ori (IntOp.cmpi .eq (BitVec.ofNat 32 n.val) 0#32) (IntOp.cmpi .eq (BitVec.ofNat 32 n.val) 255#32)) 0#32
      (IntOp.subi (BitVec.ofNat 32 n.val) 126#32) = if n.val = 0 ∨ n.val = 255 then 0#32 else BitVec.ofNat 32 n.val - 126#32 := by
    decide +kernel
  exact this ⟨n, by omega⟩

/-- The reference's exponent by the field. -/
theorem rExp_eq (t : EReal) (n : ℕ) (hn255 : n ≤ 255) (hn : ∀ k, 1 ≤ k → k ≤ 255 → (thr k ≤ t ↔ k ≤ n)) :
    rExp t = if n = 0 ∨ n = 255 then 0 else ((((n : ℤ) - 126 : ℤ) : ℝ) : EReal) := by
  unfold rExp
  rw [cMin, cTop, c0]
  show Scalar.select (IntOp.ori (BitVec.ofBool (decide (t < thr 1))) (BitVec.ofBool (decide (⊤ ≤ t)))) _ _ = _
  have h1 : t < thr 1 ↔ n = 0 := by
    rw [lt_iff_not_ge, hn 1 (by omega) (by omega)]; omega
  have h2 : ⊤ ≤ t ↔ n = 255 := by
    rw [← thr_top, hn 255 (by omega) (by omega)]; omega
  by_cases h0 : n = 0
  · rw [if_pos (.inl h0), decide_eq_true (h1.mpr h0), decide_eq_false (fun h => by have := h2.mp h; omega)]; rfl
  · by_cases h5 : n = 255
    · rw [if_pos (.inr h5), decide_eq_true (h2.mpr h5), decide_eq_false (fun h => h0 (h1.mp h))]; rfl
    · rw [if_neg (by omega), decide_eq_false (fun h => h0 (h1.mp h)), decide_eq_false (fun h => h5 (h2.mp h))]
      have := count_eq t n (by omega) hn
      rw [c0] at this
      show _ - _ = _
      rw [this, c126, ← EReal.coe_sub]; push_cast; rfl

/-- The scale's word, from the field. -/
theorem shl_up (n : Fin 255) : IntOp.shli .vector (IntOp.addi (BitVec.ofNat 32 n.val - 126#32) 127#32) 23#32 = BitVec.ofNat 32 (n.val + 1) <<< 23 := by
  revert n; decide +kernel
/-- The inverse scale's word, from the field. -/
theorem shl_down (n : Fin 254) :
    IntOp.shli .vector (IntOp.addi (IntOp.subi 0#32 (BitVec.ofNat 32 n.val - 126#32)) 127#32) 23#32 = BitVec.ofNat 32 (253 - n.val) <<< 23 := by
  revert n; decide +kernel

/-- The threshold of field 127 is one. -/
theorem thr_one : thr 127 = 1 := by rw [thr_val 127 (by omega) (by omega)]; norm_num

/-- The two exponents name one scale. -/
theorem scale_eq (t : EReal) : kScale t = rScale t := by
  obtain ⟨n, hn255, hn⟩ := exists_field t
  unfold kScale rScale
  rw [kExp_eq t n hn255 hn, rExp_eq t n hn255 hn, c128, cTop]
  show _ = Scalar.select (BitVec.ofBool (decide (_ = _))) _ _
  by_cases hs : n = 0 ∨ n = 255
  · rw [if_pos hs, if_pos hs, sel_f _ (by rw [← EReal.coe_zero]; intro h; have := EReal.coe_eq_coe_iff.mp h; norm_num at this)]
    have := exp2_int 0
    simp only [Int.cast_zero, EReal.coe_zero, zpow_zero, EReal.coe_one] at this
    rw [this]; exact thr_one
  · rw [if_neg hs, if_neg hs, shl_up ⟨n, by omega⟩]
    show thr (n + 1) = _
    by_cases h4 : n = 254
    · subst h4; rw [sel_t _ (by norm_num), thr_top]
    · rw [sel_f _ (by rw [EReal.coe_eq_coe_iff]; intro h; have := Int.cast_injective (α := ℝ) (a₁ := (n : ℤ) - 126) (a₂ := 128) (by rw [h]; norm_num); omega), exp2_int, thr_val _ (by omega) (by omega)]
      congr 2; push_cast; ring

/-- The two exponents name one inverse scale. -/
theorem inv_eq (t : EReal) : kInv t = rInv t := by
  obtain ⟨n, hn255, hn⟩ := exists_field t
  unfold kInv rInv
  rw [kExp_eq t n hn255 hn, rExp_eq t n hn255 hn, c128, c127, cBot, c0]
  show _ = Scalar.select (BitVec.ofBool (decide (_ = _))) _ (Scalar.select (BitVec.ofBool (decide (_ = _))) _ _)
  by_cases hs : n = 0 ∨ n = 255
  · rw [if_pos hs, if_pos hs, sel_f _ (by rw [← EReal.coe_zero]; intro h; have := EReal.coe_eq_coe_iff.mp h; norm_num at this),
      sel_f _ (by rw [← EReal.coe_zero]; intro h; have := EReal.coe_eq_coe_iff.mp h; norm_num at this)]
    have := exp2_int 0
    simp only [Int.cast_zero, EReal.coe_zero, zpow_zero, EReal.coe_one] at this
    rw [sub_zero, this]; exact thr_one
  · rw [if_neg hs, if_neg hs]
    by_cases h4 : n = 254
    · subst h4; rw [sel_t _ (by norm_num)]; exact thr_bot
    · rw [sel_f _ (by rw [EReal.coe_eq_coe_iff]; intro h; have := Int.cast_injective (α := ℝ) (a₁ := (n : ℤ) - 126) (a₂ := 128) (by rw [h]; norm_num); omega), shl_down ⟨n, by omega⟩]
      show thr (253 - n) = _
      by_cases h3 : n = 253
      · subst h3; rw [sel_t _ (by norm_num)]; exact thr_zero
      · rw [sel_f _ (by rw [EReal.coe_eq_coe_iff]; intro h; have := Int.cast_injective (α := ℝ) (a₁ := (n : ℤ) - 126) (a₂ := 127) (by rw [h]; norm_num); omega), ← EReal.coe_zero, ← EReal.coe_sub,
          thr_val _ (by omega) (by omega), show ((0 : ℝ) - (((n : ℤ) - 126 : ℤ) : ℝ)) = (((126 - (n : ℤ) : ℤ)) : ℝ) by push_cast; ring, exp2_int]
        congr 2; omega

/-! ### The same on the rows' vectors -/

section Vectors
open Cert.KernelIdeal Cert.KernelIdeal.Gen in
/-- The kernel's scale vector of the rows' `t`. -/
def kScaleV (t : FVec Ideal S64x1 .f32) : FVec Ideal S64x1 .f32 := k0_pay73 t (k0_pay70 t) (k0_pay71 t) 23#32
open Cert.KernelIdeal Cert.KernelIdeal.Gen in
/-- The kernel's inverse scale vector of the rows' `t`. -/
def kInvV (t : FVec Ideal S64x1 .f32) : FVec Ideal S64x1 .f32 :=
  bitcastToFloat .f32 (shli (addi (subi (broadcast S64x1 0#32) (k0_pay72 t (k0_pay70 t) (k0_pay71 t) 23#32)) (broadcast S64x1 127#32)) (broadcast S64x1 23#32))

open Cert.KernelIdeal in
/-- One rung on the rows' vectors. -/
def rungV (t : FVec Ideal S64x1 .f32) (b : BitVec 32) (w : IVec S64x1 32) : IVec S64x1 32 :=
  select (cmpf .oge t (bitcastToFloat .f32 (shli (addi w (broadcast S64x1 b)) (broadcast S64x1 23#32)))) (addi w (broadcast S64x1 b)) w
open Cert.KernelIdeal in
/-- A rung on vectors, at one row. -/
theorem rungV_at (t : FVec Ideal S64x1 .f32) (b : BitVec 32) (w : IVec S64x1 32) (i : S64x1.Idx) : rungV t b w i = rung (t i) b (w i) := rfl
open Cert.KernelIdeal Cert.KernelIdeal.Gen in
/-- The first six rungs, as printed. -/
theorem pay70_eq (t : FVec Ideal S64x1 .f32) :
    k0_pay70 t = rungV t 4#32 (rungV t 8#32 (rungV t 16#32 (rungV t 32#32 (rungV t 64#32 (rungV t 128#32 (broadcast S64x1 0#32)))))) := rfl
open Cert.KernelIdeal in
/-- The exponent from the field, on the rows' vectors. -/
def expV (w : IVec S64x1 32) : IVec S64x1 32 :=
  select (ori (cmpi .eq w (broadcast S64x1 0#32)) (cmpi .eq w (broadcast S64x1 255#32))) (broadcast S64x1 0#32) (subi w (broadcast S64x1 126#32))
open Cert.KernelIdeal in
/-- The exponent from the field, at one row. -/
theorem expV_at (w : IVec S64x1 32) (i : S64x1.Idx) :
    expV w i = Scalar.select (IntOp.ori (IntOp.cmpi .eq (w i) 0#32) (IntOp.cmpi .eq (w i) 255#32)) 0#32 (IntOp.subi (w i) 126#32) := rfl
open Cert.KernelIdeal Cert.KernelIdeal.Gen in
/-- The last two rungs and the exponent, as printed. -/
theorem pay72_eq (t : FVec Ideal S64x1 .f32) (w : IVec S64x1 32) :
    k0_pay72 t w (addi w (broadcast S64x1 2#32)) 23#32 = expV (rungV t 1#32 (rungV t 2#32 w)) := rfl
open Cert.KernelIdeal Cert.KernelIdeal.Gen in
/-- The kernel's exponent at one row. -/
theorem kExp_at (t : FVec Ideal S64x1 .f32) (i : S64x1.Idx) : k0_pay72 t (k0_pay70 t) (k0_pay71 t) 23#32 i = kExp (t i) := by
  rw [show k0_pay71 t = addi (k0_pay70 t) (broadcast S64x1 2#32) from rfl, pay72_eq, expV_at, rungV_at, rungV_at, pay70_eq]
  simp only [rungV_at]
  rfl
open Cert.KernelIdeal Cert.KernelIdeal.Gen in
/-- The kernel's scale at one row. -/
theorem kScaleV_at (t : FVec Ideal S64x1 .f32) (i : S64x1.Idx) : kScaleV t i = kScale (t i) := by
  unfold kScale; rw [← kExp_at]; rfl
open Cert.KernelIdeal Cert.KernelIdeal.Gen in
/-- The kernel's inverse scale at one row. -/
theorem kInvV_at (t : FVec Ideal S64x1 .f32) (i : S64x1.Idx) : kInvV t i = kInv (t i) := by
  unfold kInv; rw [← kExp_at]; rfl

open Cert.ReferenceIdeal Cert.ReferenceIdeal.Gen in
/-- The reference's inverse scale vector of the rows' `t`. -/
def rInvV (t : FVec Ideal S64x1 .f32) : FVec Ideal S64x1 .f32 :=
  select (cmpf .oeq (k0_pay30 t) (broadcast S64x1 (Scalar.ofBits .f32 0x43000000#32))) (broadcast S64x1 (Scalar.ofBits .f32 0xFF800000#32))
    (select (cmpf .oeq (k0_pay30 t) (broadcast S64x1 (Scalar.ofBits .f32 0x42FE0000#32))) (broadcast S64x1 (Scalar.ofBits .f32 0x00000000#32))
      (exp2 (subf (broadcast S64x1 (Scalar.ofBits .f32 0x00000000#32)) (k0_pay30 t))))

open Cert.ReferenceIdeal Cert.ReferenceIdeal.Gen in
/-- The reference's exponent at one row. -/
theorem rExp_at (t : FVec Ideal S64x1 .f32) (i : Fin 64) (j : Fin 1) : k0_pay30 t (ix2 i j) = rExp (t (ix2 i j)) := by
  obtain rfl : j = 0 := Subsingleton.elim _ _
  unfold rExp
  pointwise [k0_pay30]
  rfl
open Cert.ReferenceIdeal Cert.ReferenceIdeal.Gen in
/-- The reference's scale at one row. -/
theorem rScaleV_at (t : FVec Ideal S64x1 .f32) (i : Fin 64) (j : Fin 1) : k0_pay31 t (ix2 i j) = rScale (t (ix2 i j)) := by
  unfold rScale; rw [← rExp_at]; rfl
open Cert.ReferenceIdeal Cert.ReferenceIdeal.Gen in
/-- The reference's inverse scale at one row. -/
theorem rInvV_at (t : FVec Ideal S64x1 .f32) (i : Fin 64) (j : Fin 1) : rInvV t (ix2 i j) = rInv (t (ix2 i j)) := by
  unfold rInv; rw [← rExp_at]; rfl

open Cert.ReferenceIdeal.Gen in
/-- The kernel's scales are the reference's, row by row. -/
theorem scaleV_eq (t : FVec Ideal Cert.KernelIdeal.S64x1 .f32) : kScaleV t = k0_pay31 t := by
  funext i
  rw [eq_ix2 i, kScaleV_at]
  exact (scale_eq _).trans (rScaleV_at t _ _).symm

/-- The kernel's inverse scales are the reference's, row by row. -/
theorem invV_eq (t : FVec Ideal Cert.KernelIdeal.S64x1 .f32) : kInvV t = rInvV t := by
  funext i
  rw [eq_ix2 i, kInvV_at]
  exact (inv_eq _).trans (rInvV_at t _ _).symm
end Vectors

end Cert.Quant
-- ==== Proof.KernelIdealExperts.lean ====
module

public import proofs.«01_k».proof.Proof.KernelIdealReads
public import proofs.«01_k».proof.Proof.Quant

@[expose] public noncomputable section

set_option maxRecDepth 16384

/-! # What the kernel computes, expert by expert

The values the kernel's run names are read here as the quantiser's scale and codes, the hidden
layer of each expert and the down product of each expert. -/

namespace Cert.KernelIdeal.Hand
open Idealize.ShloMosaic Cert.KernelIdeal Cert.KernelIdeal.Gen Cert.Quant

/-- The exponent field of `t`, found rung by rung. -/
def fieldV (t : FVec Ideal S64x1 .f32) : IVec S64x1 32 :=
  rungV t 1#32 (rungV t 2#32 (rungV t 4#32 (rungV t 8#32 (rungV t 16#32 (rungV t 32#32 (rungV t 64#32 (rungV t 128#32 (broadcast S64x1 0#32))))))))
/-- The power of two with a given exponent. -/
def scaleOf (e : IVec S64x1 32) : FVec Ideal S64x1 .f32 := bitcastToFloat .f32 (shli (addi e (broadcast S64x1 127#32)) (broadcast S64x1 23#32))
/-- The power of two with the negated exponent. -/
def invOf (e : IVec S64x1 32) : FVec Ideal S64x1 .f32 :=
  bitcastToFloat .f32 (shli (addi (subi (broadcast S64x1 0#32) e) (broadcast S64x1 127#32)) (broadcast S64x1 23#32))
/-- The power of the ladder's exponent is the kernel's scale. -/
theorem scaleOf_field (t : FVec Ideal S64x1 .f32) : scaleOf (expV (fieldV t)) = kScaleV t := by
  unfold kScaleV scaleOf fieldV; rw [← pay70_eq, ← pay72_eq]; rfl
/-- The power of the negated exponent is the kernel's inverse scale. -/
theorem invOf_field (t : FVec Ideal S64x1 .f32) : invOf (expV (fieldV t)) = kInvV t := by
  unfold kInvV invOf fieldV; rw [← pay70_eq, ← pay72_eq]; rfl

/-- The codes of a row block of 1408 columns under an inverse scale. -/
def codes1408 (h : FVec Ideal S64x1408 .f32) (i : FVec Ideal S64x1 .f32) : FVec Ideal S64x1408 .fp8e4m3 :=
  truncf .fp8e4m3 (minimumf (broadcast S64x1408 (Scalar.ofBits .f32 0x43E00000#32)) (maximumf (broadcast S64x1408 (Scalar.ofBits .f32 0xC3E00000#32))
    (mulf h (broadcastTo S64x1408 i broadcasts_S64x1_S64x1408)))) bitsLt_fp8e4m3_f32
/-- The codes of a row block of 2048 columns under an inverse scale. -/
def codes2048 (h : FVec Ideal S64x2048 .f32) (i : FVec Ideal S64x1 .f32) : FVec Ideal S64x2048 .fp8e4m3 :=
  truncf .fp8e4m3 (minimumf (broadcast S64x2048 (Scalar.ofBits .f32 0x43E00000#32)) (maximumf (broadcast S64x2048 (Scalar.ofBits .f32 0xC3E00000#32))
    (mulf h (broadcastTo S64x2048 i broadcasts_S64x1_S64x2048)))) bitsLt_fp8e4m3_f32
/-- A code block stored in a slot of the codes' buffer. -/
def slot (q : FVec Ideal S64x1408 .fp8e4m3) : FVec Ideal S1x64x1408 .fp8e4m3 := shapeCast S1x64x1408 q shapeCasts_S64x1408_S1x64x1408

/-! ### The parts the ladder is printed in -/

/-- For `x`: the seven rungs from 128 to 2. -/
theorem pay6_eq (t : FVec Ideal S64x1 .f32) : k0_pay6 t k0_pay3 k0_pay4 k0_pay5 =
    rungV t 2#32 (rungV t 4#32 (rungV t 8#32 (rungV t 16#32 (rungV t 32#32 (rungV t 64#32 (rungV t 128#32 (broadcast S64x1 0#32))))))) := rfl
/-- For `x`: the last rung and the exponent. -/
theorem pay8_eq (t : FVec Ideal S64x1 .f32) (w : IVec S64x1 32) : k0_pay8 t w (addi w (broadcast S64x1 1#32)) = expV (rungV t 1#32 w) := rfl
/-- For expert 0: the seven rungs from 64 to 1. -/
theorem pay40_eq (t : FVec Ideal S64x1 .f32) (w : IVec S64x1 32) :
    k0_pay40 t w (addi w (broadcast S64x1 64#32)) (cmpf .oge t (bitcastToFloat .f32 (shli (addi w (broadcast S64x1 64#32)) (broadcast S64x1 23#32)))) =
      rungV t 1#32 (rungV t 2#32 (rungV t 4#32 (rungV t 8#32 (rungV t 16#32 (rungV t 32#32 (rungV t 64#32 w)))))) := rfl
/-- For expert 0: the exponent of a field. -/
theorem pay43_eq (w : IVec S64x1 32) : k0_pay43 w (cmpi .eq w (broadcast S64x1 0#32)) k0_pay42 = expV w := rfl
/-- For expert 1: the five rungs from 128 to 8. -/
theorem pay51_eq (a : FVec Ideal S64x2816 .f32) (b c : FVec Ideal S64x1408 .f32) : k0_pay51 a b c =
    rungV (k0_pay50 a b c) 8#32 (rungV (k0_pay50 a b c) 16#32 (rungV (k0_pay50 a b c) 32#32 (rungV (k0_pay50 a b c) 64#32 (rungV (k0_pay50 a b c) 128#32 (broadcast S64x1 0#32))))) := rfl
/-- For expert 1: the last three rungs and the exponent. -/
theorem pay53_eq (t : FVec Ideal S64x1 .f32) (w : IVec S64x1 32) :
    k0_pay53 t w (addi w (broadcast S64x1 4#32)) = expV (rungV t 1#32 (rungV t 2#32 (rungV t 4#32 w))) := rfl
/-- For expert 2: the five rungs from 128 to 8. -/
theorem pay61_eq (a : FVec Ideal S64x1408 .f32) : k0_pay61 a =
    rungV (k0_pay60 a) 8#32 (rungV (k0_pay60 a) 16#32 (rungV (k0_pay60 a) 32#32 (rungV (k0_pay60 a) 64#32 (rungV (k0_pay60 a) 128#32 (broadcast S64x1 0#32))))) := rfl
/-- For expert 2: the last three rungs and the exponent. -/
theorem pay64_eq (t : FVec Ideal S64x1 .f32) (w : IVec S64x1 32) :
    k0_pay64 t w (addi w (broadcast S64x1 4#32)) (cmpf .oge t (bitcastToFloat .f32 (shli (addi w (broadcast S64x1 4#32)) (broadcast S64x1 23#32)))) =
      expV (rungV t 1#32 (rungV t 2#32 (rungV t 4#32 w))) := rfl

/-! ### The rows of `x` -/

section X
variable (x : Vec Ideal S64x2048 .bf16)
/-- The scales of the rows of `x`. -/
def xScale : FVec Ideal S64x1 .f32 := kScaleV (k0_pay2 x)
/-- The codes of the rows of `x`. -/
def xCodes : FVec Ideal S64x2048 .fp8e4m3 := shapeCast S64x2048 (codes2048 (k0_pay1 x) (kInvV (k0_pay2 x))) shapeCasts_S64x2048_S64x2048
/-- The hidden layer of one expert. -/
def hid (gu : Vec Ideal S1x2048x2816 .fp8e4m3) (gus : Vec Ideal S1x2816 .f32) : FVec Ideal S64x1408 .f32 := k0_pay35 (xScale x) (xCodes x) gu gus
/-- A row's greatest magnitude over the greatest code. -/
def rowT (h : FVec Ideal S64x1408 .f32) : FVec Ideal S64x1 .f32 := k0_pay60 (absf h)
/-- The codes of the rows of a hidden layer. -/
def hCodes (h : FVec Ideal S64x1408 .f32) : FVec Ideal S64x1408 .fp8e4m3 := codes1408 h (kInvV (rowT h))
/-- The scales of the rows of a hidden layer. -/
def hScale (h : FVec Ideal S64x1408 .f32) : FVec Ideal S64x1 .f32 := kScaleV (rowT h)
end X

variable (c : Dev nD)
variable (fx : MBuf (F := Ideal) c bX) (fwr : MBuf (F := Ideal) c bWr) (fgu : MBuf (F := Ideal) c bGu) (fgus : MBuf (F := Ideal) c bGus)
  (fdn : MBuf (F := Ideal) c bDn) (fdns : MBuf (F := Ideal) c bDns)
variable (g0 : MBuf (F := Ideal) c s0) (g1 : MBuf (F := Ideal) c s1) (g2 : MBuf (F := Ideal) c s2) (g3 : MBuf (F := Ideal) c s3)
  (g5 : MBuf (F := Ideal) c s5) (g9 : MBuf (F := Ideal) c s9)

/-- The f32 rows of `x` in the run. -/
theorem r_eq : kernelRun.sl.r c fx g0 = k0_pay1 (fx : Vec Ideal S64x2048 .bf16) := by
  unfold kernelRun.sl.r; exact congrArg k0_pay1 (read_x c fx g0)
/-- The rows' greatest magnitudes over 448 in the run. -/
theorem r_1_eq : kernelRun.sl.r_1 c fx g0 = k0_pay2 (fx : Vec Ideal S64x2048 .bf16) := by
  unfold kernelRun.sl.r_1; exact congrArg k0_pay2 (read_x c fx g0)
/-- The exponents of `x` are those of the ladder's field. -/
theorem pay8_x (t : FVec Ideal S64x1 .f32) : k0_pay8 t (k0_pay6 t k0_pay3 k0_pay4 k0_pay5) (k0_pay7 t k0_pay3 k0_pay4 k0_pay5) = expV (fieldV t) := by
  show k0_pay8 t (k0_pay6 t k0_pay3 k0_pay4 k0_pay5) (addi (k0_pay6 t k0_pay3 k0_pay4 k0_pay5) (broadcast S64x1 1#32)) = _
  rw [pay8_eq, pay6_eq]; rfl
/-- The scales of `x` in the run. -/
theorem r_4_eq : kernelRun.sl.r_4 c fx g0 = xScale fx := by
  unfold kernelRun.sl.r_4 kernelRun.sl.r_2 kernelRun.sl.r_3
  rw [r_1_eq]
  show scaleOf (k0_pay8 _ _ _) = _
  rw [pay8_x, scaleOf_field]; rfl
/-- The codes of `x` in the run. -/
theorem v250_codes : kernelRun.sl.v250 c fx g0 = xCodes fx := by
  rw [v250_eq]
  unfold kernelRun.sl.r_2 kernelRun.sl.r_3
  rw [r_1_eq, r_eq]
  show shapeCast S64x2048 (codes2048 _ (invOf (k0_pay8 _ _ _))) _ = _
  rw [pay8_x, invOf_field]; rfl

/-- The hidden layer of expert `e`. -/
def H (e : Fin 4) : FVec Ideal S64x1408 .f32 :=
  hid (fx : Vec Ideal S64x2048 .bf16) (mat3 (fgu : Vec Ideal S4x2048x2816 .fp8e4m3) e) (row2 (fgus : Vec Ideal S4x2816 .f32) e)

/-- The load of expert 1's gate and up scales. -/
theorem gus1 : View.readAt (Elt Ideal) s2.view (Rect.unit (s := S4x2816) ![1, 0] S1x2816.size inb_S4x2816_S1x2816_1_0).toLoadRect
    (View.write (Elt Ideal) s2.view g2 (ReadAs.same.apply (View.read (Elt Ideal) bGus.view fgus)) Finset.univ) = row2 (fgus : Vec Ideal S4x2816 .f32) 1 :=
  read_gus c fgus g2 1 _
/-- The load of expert 2's gate and up scales. -/
theorem gus2 : View.readAt (Elt Ideal) s2.view (Rect.unit (s := S4x2816) ![2, 0] S1x2816.size inb_S4x2816_S1x2816_2_0).toLoadRect
    (View.write (Elt Ideal) s2.view g2 (ReadAs.same.apply (View.read (Elt Ideal) bGus.view fgus)) Finset.univ) = row2 (fgus : Vec Ideal S4x2816 .f32) 2 :=
  read_gus c fgus g2 2 _
/-- The load of expert 3's gate and up scales. -/
theorem gus3 : View.readAt (Elt Ideal) s2.view (Rect.unit (s := S4x2816) ![3, 0] S1x2816.size inb_S4x2816_S1x2816_3_0).toLoadRect
    (View.write (Elt Ideal) s2.view g2 (ReadAs.same.apply (View.read (Elt Ideal) bGus.view fgus)) Finset.univ) = row2 (fgus : Vec Ideal S4x2816 .f32) 3 :=
  read_gus c fgus g2 3 _

/-! ### Expert 0 -/
theorem r_27_eq : kernelRun.sl.r_27 c fx fgu fgus g0 g2 = H c fx fgu fgus 0 := by
  unfold kernelRun.sl.r_27 H hid
  rw [r_4_eq, v250_codes, v251_eq]; exact congrArg _ (read_gus c fgus g2 0 _)
/-- The exponent field of expert 0's rows. -/
theorem field0 : kernelRun.sl.r_32 c fx fgu fgus g0 g2 = fieldV (rowT (H c fx fgu fgus 0)) := by
  rw [← r_27_eq c fx fgu fgus g0 g2]
  unfold kernelRun.sl.r_32 kernelRun.sl.r_28 kernelRun.sl.r_29 kernelRun.sl.r_30 kernelRun.sl.r_31
  exact pay40_eq _ _
/-- The scales of expert 0's rows. -/
theorem r_34_eq : kernelRun.sl.r_34 c fx fgu fgus g0 g2 = hScale (H c fx fgu fgus 0) := by
  unfold kernelRun.sl.r_34 hScale
  rw [show kernelRun.sl.r_33 c fx fgu fgus g0 g2 = cmpi .eq (kernelRun.sl.r_32 c fx fgu fgus g0 g2) (broadcast S64x1 0#32) from rfl]
  show scaleOf (k0_pay43 _ _ _) = _
  rw [pay43_eq, field0, scaleOf_field]
/-- The codes of expert 0's rows, as loaded back. -/
theorem v710_codes : kernelRun.sl.v710 c fx fgu fgus g0 g2 = slot (hCodes (H c fx fgu fgus 0)) := by
  rw [v710_eq]
  rw [show kernelRun.sl.r_33 c fx fgu fgus g0 g2 = cmpi .eq (kernelRun.sl.r_32 c fx fgu fgus g0 g2) (broadcast S64x1 0#32) from rfl, r_27_eq]
  show slot (codes1408 _ (invOf (k0_pay43 _ _ _))) = _
  rw [pay43_eq, field0, invOf_field]; rfl

/-! ### Expert 1 -/
theorem r_38_eq : kernelRun.sl.r_38 c fx fgu fgus g0 g2 = H c fx fgu fgus 1 := by
  unfold kernelRun.sl.r_38 kernelRun.sl.r_35 kernelRun.sl.r_36 kernelRun.sl.r_37 H hid
  rw [r_4_eq, v250_codes, v358_eq, gus1]; rfl
/-- The exponents of expert 1's rows. -/
theorem field1 : k0_pay53 (kernelRun.sl.r_39 c fx fgu fgus g0 g2) (kernelRun.sl.r_40 c fx fgu fgus g0 g2) (kernelRun.sl.r_41 c fx fgu fgus g0 g2)
    = expV (fieldV (rowT (H c fx fgu fgus 1))) := by
  rw [← r_38_eq c fx fgu fgus g0 g2]
  rw [show kernelRun.sl.r_41 c fx fgu fgus g0 g2 = addi (kernelRun.sl.r_40 c fx fgu fgus g0 g2) (broadcast S64x1 4#32) from rfl, pay53_eq]
  unfold kernelRun.sl.r_40
  rw [pay51_eq]; rfl
/-- The scales of expert 1's rows. -/
theorem r_44_eq : kernelRun.sl.r_44 c fx fgu fgus g0 g2 = hScale (H c fx fgu fgus 1) := by
  unfold kernelRun.sl.r_44 kernelRun.sl.r_43 hScale
  show scaleOf (k0_pay53 _ _ _) = _
  rw [field1, scaleOf_field]
/-- The codes of expert 1's rows, as loaded back. -/
theorem v741_codes : kernelRun.sl.v741 c fx fgu fgus g0 g2 = slot (hCodes (H c fx fgu fgus 1)) := by
  rw [v741_eq]; unfold kernelRun.sl.r_42
  show slot (codes1408 (kernelRun.sl.r_38 c fx fgu fgus g0 g2) (invOf (k0_pay53 _ _ _))) = _
  rw [field1, invOf_field, r_38_eq]; rfl

/-! ### Expert 2 -/
theorem r_45_eq : kernelRun.sl.r_45 c fx fgu fgus g0 g2 = H c fx fgu fgus 2 := by
  unfold kernelRun.sl.r_45 H hid
  rw [r_4_eq, v250_codes, v475_eq, gus2]; rfl
/-- The exponents of expert 2's rows. -/
theorem field2 : k0_pay64 (kernelRun.sl.r_47 c fx fgu fgus g0 g2) (kernelRun.sl.r_48 c fx fgu fgus g0 g2) (kernelRun.sl.r_49 c fx fgu fgus g0 g2)
    (kernelRun.sl.r_50 c fx fgu fgus g0 g2) = expV (fieldV (rowT (H c fx fgu fgus 2))) := by
  rw [← r_45_eq c fx fgu fgus g0 g2]
  refine (pay64_eq (kernelRun.sl.r_47 c fx fgu fgus g0 g2) (kernelRun.sl.r_48 c fx fgu fgus g0 g2)).trans ?_
  unfold kernelRun.sl.r_48
  rw [pay61_eq]; rfl
/-- The scales of expert 2's rows. -/
theorem r_52_eq : kernelRun.sl.r_52 c fx fgu fgus g0 g2 = hScale (H c fx fgu fgus 2) := by
  unfold kernelRun.sl.r_52 hScale
  show scaleOf (k0_pay64 _ _ _ _) = _
  rw [field2, scaleOf_field]
/-- The codes of expert 2's rows, as loaded back. -/
theorem v768_codes : kernelRun.sl.v768 c fx fgu fgus g0 g2 = slot (hCodes (H c fx fgu fgus 2)) := by
  rw [v768_eq]; unfold kernelRun.sl.r_51
  show slot (codes1408 (kernelRun.sl.r_45 c fx fgu fgus g0 g2) (invOf (k0_pay64 _ _ _ _))) = _
  rw [field2, invOf_field, r_45_eq]; rfl

/-! ### Expert 3 -/
theorem r_53_eq : kernelRun.sl.r_53 c fx fgu fgus g0 g2 = H c fx fgu fgus 3 := by
  unfold kernelRun.sl.r_53 H hid
  rw [r_4_eq, v250_codes, v592_eq, gus3]; rfl
/-- The greatest magnitudes over 448 of expert 3's rows. -/
theorem r_54_eq : kernelRun.sl.r_54 c fx fgu fgus g0 g2 = rowT (H c fx fgu fgus 3) := by
  rw [← r_53_eq c fx fgu fgus g0 g2]; rfl
/-- The scales of expert 3's rows. -/
theorem r_57_eq : kernelRun.sl.r_57 c fx fgu fgus g0 g2 = hScale (H c fx fgu fgus 3) := by
  unfold kernelRun.sl.r_57 kernelRun.sl.r_55 kernelRun.sl.r_56 hScale
  rw [r_54_eq]; rfl
/-- The codes of expert 3's rows, as loaded back. -/
theorem v795_codes : kernelRun.sl.v795 c fx fgu fgus g0 g2 = slot (hCodes (H c fx fgu fgus 3)) := by
  rw [v795_eq]; unfold kernelRun.sl.r_55 kernelRun.sl.r_56
  rw [r_54_eq, r_53_eq]; rfl

end Cert.KernelIdeal.Hand
-- ==== Proof.KernelIdealValue.lean ====
module

public import proofs.«01_k».proof.Proof.KernelIdealExperts

@[expose] public noncomputable section

set_option maxRecDepth 16384

/-! # The kernel's result, entry by entry -/

namespace Cert.KernelIdeal.Hand
open Idealize.ShloMosaic Cert.KernelIdeal Cert.KernelIdeal.Gen Cert.Quant

section Terms
variable (w : FVec Ideal S64x1 .f32) (m : IVec S64x1 1) (s : FVec Ideal S64x1 .f32) (q : FVec Ideal S64x1408 .fp8e4m3)
  (dn : Vec Ideal S4x1408x2048 .fp8e4m3) (dns : Vec Ideal S4x2048 .f32)

/-- One expert's result before its weight, at a row and a column. -/
def downAt (e : Fin 4) (i : Fin 64) (j : Fin 2048) : EReal :=
  (∑ k : Fin 1408, q (ix2 i k) * dn (ix3 e k j)) * s (ix2 i 0) * dns (ix2 e j)
/-- One expert's weighted part of the result: nothing where the expert is not selected. -/
def partAt (e : Fin 4) (i : Fin 64) (j : Fin 2048) : EReal := Scalar.select (m (ix2 i 0)) (downAt s q dn dns e i j * w (ix2 i 0)) 0

/-- The running sum after expert 0, at one entry. -/
theorem pay75_at (e : Fin 4) (i : Fin 64) (j : Fin 2048) :
    k0_pay75 w m s (slot q) (mat3 dn e) (row2 dns e) (ix2 i j) = partAt w m s q dn dns e i j := by
  pointwise [k0_pay75, slot]
  rfl
/-- A running sum with one more expert's part, at one entry. -/
theorem pay76_at (y : Vec Ideal S64x2048 .f32) (e : Fin 4) (i : Fin 64) (j : Fin 2048) :
    k0_pay76 w m s (slot q) (mat3 dn e) (row2 dns e) y (ix2 i j) = y (ix2 i j) + partAt w m s q dn dns e i j := by
  pointwise [k0_pay76, slot]
  rfl
/-- A running sum with one more expert's part, at one entry, as printed for expert 2. -/
theorem pay78_at (y : Vec Ideal S64x2048 .f32) (e : Fin 4) (i : Fin 64) (j : Fin 2048) :
    k0_pay78 w m s (slot q) (mat3 dn e) (row2 dns e) y (ix2 i j) = y (ix2 i j) + partAt w m s q dn dns e i j := by
  pointwise [k0_pay78, slot]
  rfl
/-- The left half of the result, at one entry. -/
theorem pay79_at (y : Vec Ideal S64x1024 .f32) (i : Fin 64) (j : Fin 1024) (J : Fin 2048) (hJ : J.val = 0 + j.val) :
    k0_pay79 w m s (slot q)
      (fun i : S1x1408x1024.Idx => dn (ix3 3 (i 1) (⟨0 + (i 2).val, by have : (i 2).val < 1024 := (i 2).isLt; omega⟩ : Fin 2048)))
      (fun i : S1x1024.Idx => dns (ix2 3 (⟨0 + (i 1).val, by have : (i 1).val < 1024 := (i 1).isLt; omega⟩ : Fin 2048))) y (ix2 i j)
      = y (ix2 i j) + partAt w m s q dn dns 3 i J := by
  pointwise [k0_pay79, slot]
  obtain rfl : J = ⟨j.val, by clear hJ; have := j.isLt; omega⟩ := Fin.ext (hJ.trans (Nat.zero_add _))
  rfl
/-- The right half of the result, at one entry. -/
theorem pay80_at (y : Vec Ideal S64x1024 .f32) (i : Fin 64) (j : Fin 1024) (J : Fin 2048) (hJ : J.val = 1024 + j.val) :
    k0_pay80 w m s (slot q)
      (fun i : S1x1408x1024.Idx => dn (ix3 3 (i 1) (⟨1024 + (i 2).val, by have : (i 2).val < 1024 := (i 2).isLt; omega⟩ : Fin 2048)))
      (fun i : S1x1024.Idx => dns (ix2 3 (⟨1024 + (i 1).val, by have : (i 1).val < 1024 := (i 1).isLt; omega⟩ : Fin 2048))) y (ix2 i j)
      = y (ix2 i j) + partAt w m s q dn dns 3 i J := by
  pointwise [k0_pay80, slot]
  obtain rfl : J = ⟨1024 + j.val, by clear hJ; have := j.isLt; omega⟩ := Fin.ext hJ
  rfl
end Terms

variable (c : Dev nD)
variable (fx : MBuf (F := Ideal) c bX) (fwr : MBuf (F := Ideal) c bWr) (fgu : MBuf (F := Ideal) c bGu) (fgus : MBuf (F := Ideal) c bGus)
  (fdn : MBuf (F := Ideal) c bDn) (fdns : MBuf (F := Ideal) c bDns)
variable (g0 : MBuf (F := Ideal) c s0) (g1 : MBuf (F := Ideal) c s1) (g2 : MBuf (F := Ideal) c s2) (g3 : MBuf (F := Ideal) c s3)
  (g5 : MBuf (F := Ideal) c s5) (g9 : MBuf (F := Ideal) c s9)

/-- The load of expert 1's down scales. -/
theorem dns2 : View.readAt (Elt Ideal) s3.view (Rect.unit (s := S4x2048) ![1, 0] S1x2048.size inb_S4x2048_S1x2048_1_0).toLoadRect
    (View.write (Elt Ideal) s3.view g3 (ReadAs.same.apply (View.read (Elt Ideal) bDns.view fdns)) Finset.univ) = row2 (fdns : Vec Ideal S4x2048 .f32) 1 :=
  read_dns c fdns g3 1 _

/-- The part of expert 0 .. 3 in the run. -/
def part0 (i : Fin 64) (j : Fin 2048) : EReal := partAt (kernelRun.sl.r_19 c fx fwr g0 g1) (kernelRun.sl.r_20 c fx fwr g0 g1)
  (hScale (H c fx fgu fgus 0)) (hCodes (H c fx fgu fgus 0)) fdn fdns 0 i j
/-- Expert 1's part at one entry. -/
def part1 (i : Fin 64) (j : Fin 2048) : EReal := partAt (kernelRun.sl.r_21 c fx fwr g0 g1) (kernelRun.sl.r_22 c fx fwr g0 g1)
  (hScale (H c fx fgu fgus 1)) (hCodes (H c fx fgu fgus 1)) fdn fdns 1 i j
/-- Expert 2's part at one entry. -/
def part2 (i : Fin 64) (j : Fin 2048) : EReal := partAt (kernelRun.sl.r_23 c fx fwr g0 g1) (kernelRun.sl.r_24 c fx fwr g0 g1)
  (hScale (H c fx fgu fgus 2)) (hCodes (H c fx fgu fgus 2)) fdn fdns 2 i j
/-- Expert 3's part at one entry. -/
def part3 (i : Fin 64) (j : Fin 2048) : EReal := partAt (kernelRun.sl.r_25 c fx fwr g0 g1) (kernelRun.sl.r_26 c fx fwr g0 g1)
  (hScale (H c fx fgu fgus 3)) (hCodes (H c fx fgu fgus 3)) fdn fdns 3 i j

/-- The running sum after three experts, at one entry. -/
theorem sum3_at (i : Fin 64) (j : Fin 2048) : sum3 c fx fwr fgu fgus fdn fdns g0 g1 g2 g3 g5 (ix2 i j) =
    part0 c fx fwr fgu fgus fdn fdns g0 g1 i j + part1 c fx fwr fgu fgus fdn fdns g0 g1 i j + part2 c fx fwr fgu fgus fdn fdns g0 g1 i j := by
  unfold sum3
  rw [r_52_eq, v768_codes, v770_eq]
  refine (pay78_at _ _ _ _ _ _ _ 2 i j).trans ?_
  rw [v784_eq]
  unfold kernelRun.sl.r_58
  rw [r_44_eq, v741_codes, v743_eq, dns2]
  rw [show ∀ z : FVec Ideal S64x2048 .f32, k0_pay77 z (ix2 i j) = z (ix2 i j) from fun z => by pointwise [k0_pay77]]
  rw [pay76_at, v757_eq, r_34_eq, v710_codes, v712_eq, pay75_at]
  rfl

/-- The left half the body copies out, at one entry. -/
theorem left_at (i : Fin 64) (j : Fin 1024) (J : Fin 2048) (hJ : J.val = 0 + j.val) :
    kernelRun.sl.dma59 c fx fwr fgu fgus fdn fdns g0 g1 g2 g3 g5 g9 (ix2 i j) =
    part0 c fx fwr fgu fgus fdn fdns g0 g1 i J + part1 c fx fwr fgu fgus fdn fdns g0 g1 i J + part2 c fx fwr fgu fgus fdn fdns g0 g1 i J
      + part3 c fx fwr fgu fgus fdn fdns g0 g1 i J := by
  rw [dma59_eq, r_57_eq, v795_codes, v797_eq]
  refine (pay79_at _ _ _ _ _ _ _ i j J hJ).trans ?_
  rw [v811_eq, ← sum3_at c fx fwr fgu fgus fdn fdns g0 g1 g2 g3 g5 i J]
  refine congrArg (· + part3 c fx fwr fgu fgus fdn fdns g0 g1 i J) (congrArg (sum3 c fx fwr fgu fgus fdn fdns g0 g1 g2 g3 g5) ?_)
  funext a; apply Fin.ext
  match a with
  | ⟨0, _⟩ => show 0 + 1 * i.val = i.val; omega
  | ⟨1, _⟩ => show 0 + 1 * j.val = J.val; omega
/-- The right half the body copies out, at one entry. -/
theorem right_at (i : Fin 64) (j : Fin 1024) (J : Fin 2048) (hJ : J.val = 1024 + j.val) :
    kernelRun.sl.dma66 c fx fwr fgu fgus fdn fdns g0 g1 g2 g3 g5 g9 (ix2 i j) =
    part0 c fx fwr fgu fgus fdn fdns g0 g1 i J + part1 c fx fwr fgu fgus fdn fdns g0 g1 i J + part2 c fx fwr fgu fgus fdn fdns g0 g1 i J
      + part3 c fx fwr fgu fgus fdn fdns g0 g1 i J := by
  rw [dma66_eq, r_57_eq, v795_codes, v827_eq]
  refine (pay80_at _ _ _ _ _ _ _ i j J hJ).trans ?_
  rw [v841_eq, ← sum3_at c fx fwr fgu fgus fdn fdns g0 g1 g2 g3 g5 i J]
  refine congrArg (· + part3 c fx fwr fgu fgus fdn fdns g0 g1 i J) (congrArg (sum3 c fx fwr fgu fgus fdn fdns g0 g1 g2 g3 g5) ?_)
  funext a; apply Fin.ext
  match a with
  | ⟨0, _⟩ => show 0 + 1 * i.val = i.val; omega
  | ⟨1, _⟩ => show 1024 + 1 * j.val = J.val; omega

end Cert.KernelIdeal.Hand
-- ==== Proof.ReferenceExperts.lean ====
module

public import proofs.«01_k».proof.Proof.KernelIdealValue
public import proofs.«01_k».proof.Proof.Gen.ReferenceIdeal.Frame

@[expose] public noncomputable section

set_option maxRecDepth 16384

/-! # What the reference computes, expert by expert

The reference's body names its values in the order it computes them. Each is read here as the
hidden layer, the codes, the scales or the down product of `KernelIdealExperts`, so that both
programs speak of one set of functions. -/

namespace Cert.ReferenceIdeal.Hand
open Idealize.ShloMosaic Cert.ReferenceIdeal Cert.ReferenceIdeal.Gen Cert.Quant
open Cert.KernelIdeal.Hand (hid xScale xCodes rowT hCodes hScale codes1408 codes2048 row2 mat3 downAt)

section X
variable (x : Vec Ideal S64x2048 .bf16)

/-- The exponents of the rows of `x` are those of the rows' greatest magnitudes over the greatest code. -/
theorem pay3_eq : k0_pay3 x = k0_pay30 (Cert.KernelIdeal.Gen.k0_pay2 x) := by
  unfold k0_pay3 k0_pay30 k0_pay2
  rw [shapeCast_self]; rfl
/-- The scales of the rows of `x`. -/
theorem pay4_eq : k0_pay4 x = xScale x := by
  unfold xScale; rw [scaleV_eq]; unfold k0_pay4; rw [pay3_eq]; rfl
/-- The inverse scales of the rows of `x`, as the body selects them. -/
theorem inv_x : select (k0_pay5 x) (broadcast S64x1 (Scalar.ofBits (F := Ideal) .f32 0xFF800000#32)) (select (k0_pay6 x) (k0_pay8 (F := Ideal)) (k0_pay7 x)) =
    kInvV (Cert.KernelIdeal.Gen.k0_pay2 x) := by
  rw [invV_eq]; unfold k0_pay5 k0_pay6 k0_pay7; rw [pay3_eq]; rfl
/-- The codes of the rows of `x`. -/
theorem pay9_eq : k0_pay9 (k0_pay2 x) (k0_pay5 x) (k0_pay6 x) (k0_pay7 x) (k0_pay8 (F := Ideal)) = xCodes x := by
  unfold xCodes; rw [shapeCast_self]
  show codes2048 (k0_pay2 x) (select (k0_pay5 x) (broadcast S64x1 (Scalar.ofBits (F := Ideal) .f32 0xFF800000#32)) (select (k0_pay6 x) (k0_pay8 (F := Ideal)) (k0_pay7 x))) = _
  rw [inv_x]; unfold k0_pay2; rw [shapeCast_self]; rfl
end X

section H
variable (x : Vec Ideal S64x2048 .bf16) (gu : Vec Ideal S1x2048x2816 .fp8e4m3) (gus : Vec Ideal S1x2816 .f32)
/-- The hidden layer from scales and codes is the kernel's. -/
theorem pay17_eq (s : FVec Ideal S64x1 .f32) (q : FVec Ideal S64x2048 .fp8e4m3) : k0_pay17 s q gu gus = Cert.KernelIdeal.Gen.k0_pay35 s q gu gus := rfl
/-- The hidden layer, with the codes computed inside. -/
theorem pay12_eq (a : FVec Ideal S64x2048 .f32) (s : FVec Ideal S64x1 .f32) (f g : IVec S64x1 1) (p z : FVec Ideal S64x1 .f32) :
    k0_pay12 a s f g p z gu gus = k0_pay17 s (k0_pay9 a f g p z) gu gus := rfl
/-- The hidden layer, in two parts. -/
theorem pay21_eq (s : FVec Ideal S64x1 .f32) (q : FVec Ideal S64x2048 .fp8e4m3) : k0_pay21 (k0_pay20 s q gu) gus = k0_pay17 s q gu gus := rfl
/-- Expert 3's hidden layer is printed under another name than expert 1's; the two are one function. -/
theorem pay28_eq (s : FVec Ideal S64x1 .f32) (q : FVec Ideal S64x2048 .fp8e4m3) : k0_pay28 s q gu gus = k0_pay17 s q gu gus := rfl
/-- Expert 0's hidden layer. -/
theorem hid0 : k0_pay12 (k0_pay2 x) (k0_pay4 x) (k0_pay5 x) (k0_pay6 x) (k0_pay7 x) (k0_pay8 (F := Ideal)) gu gus = hid x gu gus := by
  rw [pay12_eq, pay9_eq, pay4_eq]; exact pay17_eq gu gus _ _
end H

section Down
variable (h : FVec Ideal S64x1408 .f32) (dn : Vec Ideal S1x1408x2048 .fp8e4m3) (dns : Vec Ideal S1x2048 .f32)

/-- The down product of one expert, from codes and scales. -/
def prod (s : FVec Ideal S64x1 .f32) (q : FVec Ideal S64x1408 .fp8e4m3) : FVec Ideal S64x2048 .f32 :=
  mulf (mulf (matmul dot_S64x1408_S1408x2048_S64x2048_1_0_0_1_n_n none q (shapeCast S1408x2048 dn shapeCasts_S1x1408x2048_S1408x2048 : FVec Ideal S1408x2048 .fp8e4m3) (constant S64x2048 .f32 0x00000000#32))
    (broadcastTo S64x2048 s broadcasts_S64x1_S64x2048)) (broadcastTo S64x2048 dns broadcasts_S1x2048_S64x2048)
/-- The down product of the rows of a hidden layer, quantised. -/
def down : FVec Ideal S64x2048 .f32 := prod dn dns (hScale h) (hCodes h)
/-- The reference's scales and inverse scales give the same product. -/
theorem prod_eq : prod dn dns (k0_pay31 (rowT h)) (codes1408 h (rInvV (rowT h))) = down h dn dns := by
  unfold down hScale hCodes; rw [scaleV_eq, invV_eq]
/-- How many powers of two a row's value reaches. -/
def reached (t : FVec Ideal S64x1 .f32) : FVec Ideal S64 .f32 :=
  multiReduction .add [1] S64 (select (cmpf .ole (exp2 (sitofp .f32 (subi (iota .tc S64x254 32 [1] iota_S64x254_d1_w32) (broadcast S64x254 126#32)))) (broadcastTo S64x254 t broadcasts_S64x1_S64x254))
    (broadcast S64x254 (Scalar.ofBits .f32 0x3F800000#32)) (broadcast S64x254 (Scalar.ofBits .f32 0x00000000#32))) 0x00000000#32 reduces_S64x254_S64 (.inl rfl) rfl
/-- The first expert's down product. -/
theorem pay15_eq (t : FVec Ideal S64x1 .f32) : k0_pay15 h t (reached t) dn dns = prod dn dns (k0_pay31 t) (codes1408 h (rInvV t)) := rfl
/-- One expert's weighted down product. -/
def weighted (w : FVec Ideal S64x1 .f32) (d : FVec Ideal S64x2048 .f32) : FVec Ideal S64x2048 .f32 := mulf d (broadcastTo S64x2048 w broadcasts_S64x1_S64x2048)
/-- The second expert's step. -/
theorem pay19_eq (v : FVec Ideal S64x4 .f32) (y : FVec Ideal S64x2048 .f32) (t : FVec Ideal S64x1 .f32) :
    k0_pay19 v y h (k0_pay30 t) (Scalar.ofBits .f32 0x43000000#32) dn dns =
      addf y (weighted (extractStridedSlice S64x1 ![0, 1] v slices_S64x4_o0_1_S64x1) (prod dn dns (k0_pay31 t) (codes1408 h (rInvV t)))) := rfl
/-- The third expert's step. -/
theorem pay27_eq (v : FVec Ideal S64x4 .f32) (y : FVec Ideal S64x2048 .f32) (t : FVec Ideal S64x1 .f32) :
    k0_pay27 v y h (k0_pay31 t) (cmpf .oeq (k0_pay30 t) (broadcast S64x1 (Scalar.ofBits .f32 0x43000000#32)))
        (cmpf .oeq (k0_pay30 t) (broadcast S64x1 (Scalar.ofBits .f32 0x42FE0000#32))) (subf (broadcast S64x1 (Scalar.ofBits .f32 0x00000000#32)) (k0_pay30 t)) dn dns =
      addf y (weighted (extractStridedSlice S64x1 ![0, 2] v slices_S64x4_o0_2_S64x1) (prod dn dns (k0_pay31 t) (codes1408 h (rInvV t)))) := rfl
/-- The fourth expert's step, rounded to the result's type. -/
theorem pay1_eq (v : FVec Ideal S64x4 .f32) (y : FVec Ideal S64x2048 .f32) (t : FVec Ideal S64x1 .f32) :
    k0_pay1 v y (k0_pay31 t) (k0_pay32 h t) dn dns =
      truncf .bf16 (addf y (weighted (extractStridedSlice S64x1 ![0, 3] v slices_S64x4_o0_3_S64x1) (prod dn dns (k0_pay31 t) (codes1408 h (rInvV t))))) bitsLt_bf16_f32 := rfl
end Down

/-! ### The body's result -/

section Out
variable (x : Vec Ideal S64x2048 .bf16) (v : Vec Ideal S64x4 .f32) (gu : Vec Ideal S4x2048x2816 .fp8e4m3) (gus : Vec Ideal S4x2816 .f32)
  (dn : Vec Ideal S4x1408x2048 .fp8e4m3) (dns : Vec Ideal S4x2048 .f32)

/-- A whole block read whole. -/
theorem ld_x : View.ld x r0_0 = x := by
  funext i; show x _ = x i; congr 1; funext a; apply Fin.ext
  match a with
  | ⟨0, _⟩ => show 0 + 1 * (i 0).val = (i 0).val; omega
  | ⟨1, _⟩ => show 0 + 1 * (i 1).val = (i 1).val; omega
/-- The load of the whole array of weights. -/
theorem ld_v : View.ld v r0_1 = v := by
  funext i; show v _ = v i; congr 1; funext a; apply Fin.ext
  match a with
  | ⟨0, _⟩ => show 0 + 1 * (i 0).val = (i 0).val; omega
  | ⟨1, _⟩ => show 0 + 1 * (i 1).val = (i 1).val; omega
/-- One row of a table read through its rectangle. -/
theorem ld_row {α : EltTy} {n k : ℕ} (f : Vec Ideal (⟨2, ![n, k]⟩ : Shape) α) (e : Fin n) (inb) :
    View.ld f (Rect.unit (s := (⟨2, ![n, k]⟩ : Shape)) ![e.val, 0] ![1, k] inb) = row2 f e := by
  funext i; show f _ = f _; congr 1; funext a; apply Fin.ext
  have h0 : (i 0).val < 1 := (i 0).isLt
  match a with
  | ⟨0, _⟩ => show e.val + 1 * (i 0).val = e.val; omega
  | ⟨1, _⟩ => show 0 + 1 * (i 1).val = (i 1).val; omega
/-- One matrix of a stack read through its rectangle. -/
theorem ld_mat {α : EltTy} {n k l : ℕ} (f : Vec Ideal (⟨3, ![n, k, l]⟩ : Shape) α) (e : Fin n) (inb) :
    View.ld f (Rect.unit (s := (⟨3, ![n, k, l]⟩ : Shape)) ![e.val, 0, 0] ![1, k, l] inb) = mat3 f e := by
  funext i; show f _ = f _; congr 1; funext a; apply Fin.ext
  have h0 : (i 0).val < 1 := (i 0).isLt
  match a with
  | ⟨0, _⟩ => show e.val + 1 * (i 0).val = e.val; omega
  | ⟨1, _⟩ => show 0 + 1 * (i 1).val = (i 1).val; omega
  | ⟨2, _⟩ => show 0 + 1 * (i 2).val = (i 2).val; omega

/-- Expert `e`'s hidden layer. -/
def hidden (e : Fin 4) : FVec Ideal S64x1408 .f32 := hid x (mat3 gu e) (row2 gus e)
/-- Expert `e`'s down product. -/
def part (e : Fin 4) : FVec Ideal S64x2048 .f32 := down (hidden x gu gus e) (mat3 dn e) (row2 dns e)
/-- The weighted sum over the experts, in their order. -/
def total : FVec Ideal S64x2048 .bf16 :=
  truncf .bf16 (addf (addf (addf (addf (k0_pay11 (F := Ideal))
    (weighted (extractStridedSlice S64x1 ![0, 0] v slices_S64x4_o0_0_S64x1) (part x gu gus dn dns 0)))
    (weighted (extractStridedSlice S64x1 ![0, 1] v slices_S64x4_o0_1_S64x1) (part x gu gus dn dns 1)))
    (weighted (extractStridedSlice S64x1 ![0, 2] v slices_S64x4_o0_2_S64x1) (part x gu gus dn dns 2)))
    (weighted (extractStridedSlice S64x1 ![0, 3] v slices_S64x4_o0_3_S64x1) (part x gu gus dn dns 3))) bitsLt_bf16_f32

/-- Expert 0's turn adds its down product by its weight to the running sum. -/
theorem step0 (y : FVec Ideal S64x2048 .f32) (g : Vec Ideal S1x2048x2816 .fp8e4m3) (gs : Vec Ideal S1x2816 .f32) (d : Vec Ideal S1x1408x2048 .fp8e4m3) (ds : Vec Ideal S1x2048 .f32) :
    k0_pay16 v y (k0_pay15 (k0_pay12 (k0_pay2 x) (k0_pay4 x) (k0_pay5 x) (k0_pay6 x) (k0_pay7 x) (k0_pay8 (F := Ideal)) g gs)
      (k0_pay13 (k0_pay2 x) (k0_pay4 x) (k0_pay5 x) (k0_pay6 x) (k0_pay7 x) (k0_pay8 (F := Ideal)) g gs)
      (k0_pay14 (k0_pay2 x) (k0_pay4 x) (k0_pay5 x) (k0_pay6 x) (k0_pay7 x) (k0_pay8 (F := Ideal)) g gs) d ds) =
    addf y (weighted (extractStridedSlice S64x1 ![0, 0] v slices_S64x4_o0_0_S64x1) (down (hid x g gs) d ds)) := by
  have h13 : k0_pay13 (k0_pay2 x) (k0_pay4 x) (k0_pay5 x) (k0_pay6 x) (k0_pay7 x) (k0_pay8 (F := Ideal)) g gs = rowT (hid x g gs) := by
    unfold k0_pay13; rw [hid0]; rfl
  have h14 : k0_pay14 (k0_pay2 x) (k0_pay4 x) (k0_pay5 x) (k0_pay6 x) (k0_pay7 x) (k0_pay8 (F := Ideal)) g gs = reached (rowT (hid x g gs)) := by
    unfold k0_pay14; rw [h13]; rfl
  rw [h13, h14, hid0, pay15_eq, prod_eq]; rfl
/-- Expert 1's turn adds its down product by its weight to the running sum. -/
theorem step1 (y : FVec Ideal S64x2048 .f32) (g : Vec Ideal S1x2048x2816 .fp8e4m3) (gs : Vec Ideal S1x2816 .f32) (d : Vec Ideal S1x1408x2048 .fp8e4m3) (ds : Vec Ideal S1x2048 .f32) :
    k0_pay19 v y (k0_pay17 (xScale x) (xCodes x) g gs) (k0_pay18 (xScale x) (xCodes x) g gs) (Scalar.ofBits .f32 0x43000000#32) d ds =
    addf y (weighted (extractStridedSlice S64x1 ![0, 1] v slices_S64x4_o0_1_S64x1) (down (hid x g gs) d ds)) := by
  have h18 : k0_pay18 (xScale x) (xCodes x) g gs = k0_pay30 (rowT (k0_pay17 (xScale x) (xCodes x) g gs)) := rfl
  have h17 : k0_pay17 (xScale x) (xCodes x) g gs = hid x g gs := pay17_eq g gs _ _
  rw [h18, h17, pay19_eq, prod_eq]
/-- Expert 2's turn adds its down product by its weight to the running sum. -/
theorem step2 (y : FVec Ideal S64x2048 .f32) (g : Vec Ideal S1x2048x2816 .fp8e4m3) (gs : Vec Ideal S1x2816 .f32) (d : Vec Ideal S1x1408x2048 .fp8e4m3) (ds : Vec Ideal S1x2048 .f32) :
    k0_pay27 v y (k0_pay21 (k0_pay20 (xScale x) (xCodes x) g) gs) (k0_pay23 (k0_pay20 (xScale x) (xCodes x) g) gs) (k0_pay24 (k0_pay20 (xScale x) (xCodes x) g) gs)
      (k0_pay25 (k0_pay20 (xScale x) (xCodes x) g) gs) (k0_pay26 (k0_pay20 (xScale x) (xCodes x) g) gs) d ds =
    addf y (weighted (extractStridedSlice S64x1 ![0, 2] v slices_S64x4_o0_2_S64x1) (down (hid x g gs) d ds)) := by
  have h21 : k0_pay21 (k0_pay20 (xScale x) (xCodes x) g) gs = hid x g gs := (pay21_eq g gs _ _).trans (pay17_eq g gs _ _)
  have h22 : k0_pay22 (k0_pay20 (xScale x) (xCodes x) g) gs = k0_pay30 (rowT (hid x g gs)) := by
    rw [← h21]; rfl
  unfold k0_pay23 k0_pay24 k0_pay25 k0_pay26
  rw [h21, h22]
  exact (pay27_eq (hid x g gs) d ds v y (rowT (hid x g gs))).trans (by rw [prod_eq])
/-- Expert 3's turn adds its down product by its weight to the running sum. -/
theorem step3 (y : FVec Ideal S64x2048 .f32) (g : Vec Ideal S1x2048x2816 .fp8e4m3) (gs : Vec Ideal S1x2816 .f32) (d : Vec Ideal S1x1408x2048 .fp8e4m3) (ds : Vec Ideal S1x2048 .f32) :
    k0_pay1 v y (k0_pay31 (k0_pay29 (xScale x) (xCodes x) g gs)) (k0_pay32 (k0_pay28 (xScale x) (xCodes x) g gs) (k0_pay29 (xScale x) (xCodes x) g gs)) d ds =
    truncf .bf16 (addf y (weighted (extractStridedSlice S64x1 ![0, 3] v slices_S64x4_o0_3_S64x1) (down (hid x g gs) d ds))) bitsLt_bf16_f32 := by
  have h28 : k0_pay28 (xScale x) (xCodes x) g gs = hid x g gs := (pay28_eq g gs _ _).trans (pay17_eq g gs _ _)
  have h29 : k0_pay29 (xScale x) (xCodes x) g gs = rowT (hid x g gs) := by
    unfold k0_pay29; rw [h28]; rfl
  rw [h28, h29, pay1_eq, prod_eq]

/-- The body leaves the weighted sum in the result's buffer. -/
theorem out_eq : out0_6 x v gu gus dn dns = total x v gu gus dn dns := by
  unfold_out out0_6
  rw [ld_x, ld_v]
  simp only [pay9_eq]
  rw [step0, pay4_eq, step1, step2, step3]
  rw [show View.ld gu r0_2 = mat3 gu 0 from ld_mat gu 0 _, show View.ld gu r0_6 = mat3 gu 1 from ld_mat gu 1 _,
    show View.ld gu r0_10 = mat3 gu 2 from ld_mat gu 2 _, show View.ld gu r0_14 = mat3 gu 3 from ld_mat gu 3 _,
    show View.ld gus r0_3 = row2 gus 0 from ld_row gus 0 _, show View.ld gus r0_7 = row2 gus 1 from ld_row gus 1 _,
    show View.ld gus r0_11 = row2 gus 2 from ld_row gus 2 _, show View.ld gus r0_15 = row2 gus 3 from ld_row gus 3 _,
    show View.ld dn r0_4 = mat3 dn 0 from ld_mat dn 0 _, show View.ld dn r0_8 = mat3 dn 1 from ld_mat dn 1 _,
    show View.ld dn r0_12 = mat3 dn 2 from ld_mat dn 2 _, show View.ld dn r0_16 = mat3 dn 3 from ld_mat dn 3 _,
    show View.ld dns r0_5 = row2 dns 0 from ld_row dns 0 _, show View.ld dns r0_9 = row2 dns 1 from ld_row dns 1 _,
    show View.ld dns r0_13 = row2 dns 2 from ld_row dns 2 _, show View.ld dns r0_17 = row2 dns 3 from ld_row dns 3 _]
  rw [View.canon_unit_zero (by funext a; match a with | ⟨0, _⟩ => rfl | ⟨1, _⟩ => rfl)]
  unfold k0_pay10
  rw [shapeCast_self]; rfl

/-- A down product at one entry. -/
theorem down_at (h : FVec Ideal S64x1408 .f32) (e : Fin 4) (i : Fin 64) (j : Fin 2048) :
    down h (mat3 dn e) (row2 dns e) (ix2 i j) = downAt (hScale h) (hCodes h) dn dns e i j := by
  unfold down
  pointwise [prod]
  rfl
/-- The body's result at a row and a column. -/
theorem total_at (i : Fin 64) (j : Fin 2048) : total x v gu gus dn dns (ix2 i j) =
    downAt (hScale (hidden x gu gus 0)) (hCodes (hidden x gu gus 0)) dn dns 0 i j * v (ix2 i 0) +
    downAt (hScale (hidden x gu gus 1)) (hCodes (hidden x gu gus 1)) dn dns 1 i j * v (ix2 i 1) +
    downAt (hScale (hidden x gu gus 2)) (hCodes (hidden x gu gus 2)) dn dns 2 i j * v (ix2 i 2) +
    downAt (hScale (hidden x gu gus 3)) (hCodes (hidden x gu gus 3)) dn dns 3 i j * v (ix2 i 3) := by
  simp only [← down_at]
  pointwise [total, weighted, part, k0_pay11]
end Out

end Cert.ReferenceIdeal.Hand
-- ==== Proof.Routing.lean ====
module

public import Idealize.ShloMosaic.Lib.Pointwise
public import Idealize.ShloMosaic.Lib.SortFacts
public import Mathlib.Data.EReal.Basic
public import Mathlib.Data.Fintype.Card

@[expose] public noncomputable section

set_option maxRecDepth 16384

/-! # Choosing the two greatest of four logits

The kernel ranks each expert by counting the logits that come before its own; the reference sorts
the logits and takes the first two.  Both read only which logit exceeds which. -/

namespace Cert.Routing
open Idealize.ShloMosaic

/-- A comparison's bit as a word. -/
def word (b : Bool) : BitVec 32 := (BitVec.ofBool b).setWidth 32

/-- The rank the kernel counts for each expert, from which logit exceeds which. -/
def rank (B : Fin 4 → Fin 4 → Bool) : Fin 4 → BitVec 32 :=
  ![0#32 + word (B 1 0) + word (B 2 0) + word (B 3 0),
    0#32 + word (!B 1 0) + word (B 2 1) + word (B 3 1),
    0#32 + word (!B 2 0) + word (!B 2 1) + word (B 3 2),
    0#32 + word (!B 3 0) + word (!B 3 1) + word (!B 3 2)]

/-- Which logit exceeds which. -/
def exceeds (l : Fin 4 → EReal) (a b : Fin 4) : Bool := decide (l b < l a)

/-- The experts whose logits are below an expert's. -/
def below (l : Fin 4 → EReal) (e : Fin 4) : Finset (Fin 4) := Finset.univ.filter fun k => l k < l e
/-- What it is to lie below. -/
theorem mem_below (l : Fin 4 → EReal) (e k : Fin 4) : k ∈ below l e ↔ l k < l e := by simp [below]
/-- At most three logits lie below one. -/
theorem card_below_lt (l : Fin 4 → EReal) (e : Fin 4) : (below l e).card < 4 := by
  refine lt_of_lt_of_le (Finset.card_lt_card (t := Finset.univ) ?_) (by decide)
  refine Finset.ssubset_iff_subset_ne.mpr ⟨Finset.subset_univ _, fun h => ?_⟩
  exact lt_irrefl _ ((mem_below l e e).mp (h.symm.subset (Finset.mem_univ e)))
/-- Logits compare as the numbers of logits below them. -/
theorem card_below (l : Fin 4 → EReal) (a b : Fin 4) : l b < l a ↔ (below l b).card < (below l a).card := by
  refine ⟨fun h => ?_, fun h => ?_⟩
  · refine Finset.card_lt_card (Finset.ssubset_iff_subset_ne.mpr ⟨fun k hk => ?_, fun he => ?_⟩)
    · exact (mem_below _ _ _).mpr (((mem_below _ _ _).mp hk).trans h)
    · exact lt_irrefl _ ((mem_below _ _ _).mp (he.symm.subset ((mem_below _ _ _).mpr h)))
  · by_contra hn
    refine absurd h (not_lt.mpr (Finset.card_le_card fun k hk => ?_))
    exact (mem_below _ _ _).mpr (((mem_below _ _ _).mp hk).trans_le (not_lt.mp hn))
/-- How many logits are below an expert's. -/
def small (l : Fin 4 → EReal) (e : Fin 4) : Fin 4 := ⟨(below l e).card, card_below_lt l e⟩
/-- The same relation is had by four numbers below four. -/
theorem exceeds_small (l : Fin 4 → EReal) : exceeds l = fun a b => decide (small l b < small l a) := by
  funext a b
  exact decide_eq_decide.mpr (card_below l a b)

/-- On four numbers below four the ranks 0 and 1 are the first two of the sort. -/
theorem small_facts : ∀ p q r s : Fin 4,
    let B : Fin 4 → Fin 4 → Bool := fun a b => decide ((![p, q, r, s] : Fin 4 → Fin 4) b < (![p, q, r, s] : Fin 4 → Fin 4) a)
    (∀ e, (rank B e = 0#32 ↔ sortedFrom B 0 = e) ∧ (rank B e = 1#32 ↔ sortedFrom B 1 = e)
      ∧ ((rank B e).slt 2#32 = true ↔ (sortedFrom B 0 = e ∨ sortedFrom B 1 = e)))
    ∧ sortedFrom B 0 ≠ sortedFrom B 1 ∧ B (sortedFrom B 1) (sortedFrom B 0) = false := by
  decide +kernel

variable (l : Fin 4 → EReal)

/-- The expert of the greatest logit, the first of the sort. -/
def first : Fin 4 := sortedFrom (exceeds l) 0
/-- The expert of the next logit, the second of the sort. -/
def second : Fin 4 := sortedFrom (exceeds l) 1

/-- The facts of ranks and sorted places, for any four logits. -/
theorem facts : (∀ e, (rank (exceeds l) e = 0#32 ↔ first l = e) ∧ (rank (exceeds l) e = 1#32 ↔ second l = e)
      ∧ ((rank (exceeds l) e).slt 2#32 = true ↔ (first l = e ∨ second l = e)))
    ∧ first l ≠ second l ∧ exceeds l (second l) (first l) = false := by
  have hf := exceeds_small l
  generalize small l = f at hf
  have h := small_facts (f 0) (f 1) (f 2) (f 3)
  rw [show (![f 0, f 1, f 2, f 3] : Fin 4 → Fin 4) = f from by funext e; fin_cases e <;> rfl] at h
  unfold first second
  rw [hf]; exact h

/-- Rank 0 is the first choice. -/
theorem rank_zero (e : Fin 4) : rank (exceeds l) e = 0#32 ↔ first l = e := ((facts l).1 e).1
/-- Rank 1 is the second choice. -/
theorem rank_one (e : Fin 4) : rank (exceeds l) e = 1#32 ↔ second l = e := ((facts l).1 e).2.1
/-- A rank below 2 is one of the two choices. -/
theorem rank_two (e : Fin 4) : (rank (exceeds l) e).slt 2#32 = true ↔ (first l = e ∨ second l = e) := ((facts l).1 e).2.2
/-- The two choices differ. -/
theorem first_ne_second : first l ≠ second l := (facts l).2.1
/-- The second choice's logit is at most the first's. -/
theorem second_le_first : l (second l) ≤ l (first l) := by
  have h := (facts l).2.2
  unfold exceeds at h
  exact not_lt.mp (of_decide_eq_false h)

/-- The greatest of four entries of which all but one are the least value. -/
theorem max_pick (k : Fin 4) : max (max (max (if k = 0 then l 0 else ⊥) (if k = 1 then l 1 else ⊥)) (if k = 2 then l 2 else ⊥)) (if k = 3 then l 3 else ⊥) = l k := by
  fin_cases k <;> simp

/-- The greatest logit's gate and the next one's: the softmax of the two. -/
def gate0 : EReal := Ideal.div (Ideal.exp (l (first l) - l (first l)))
  (Ideal.exp (l (first l) - l (first l)) + Ideal.exp (l (second l) - l (first l)))
/-- The second choice's gate. -/
def gate1 : EReal := Ideal.div (Ideal.exp (l (second l) - l (first l)))
  (Ideal.exp (l (first l) - l (first l)) + Ideal.exp (l (second l) - l (first l)))
/-- An expert's routing weight. -/
def weight (e : Fin 4) : EReal := if second l = e then gate1 l else if first l = e then gate0 l else 0
/-- An expert not chosen has weight zero. -/
theorem weight_zero {e : Fin 4} (h : ¬ (first l = e ∨ second l = e)) : weight l e = 0 := by
  unfold weight
  rw [if_neg fun h' => h (.inr h'), if_neg fun h' => h (.inl h')]

/-- A selection by equal words. -/
theorem select_eq (v w : BitVec 32) (a b : EReal) : Scalar.select (IntOp.cmpi .eq v w) a b = if v = w then a else b := by
  unfold Scalar.select IntOp.cmpi
  by_cases h : v = w
  · subst h; simp
  · rw [show (v == w) = false from beq_eq_false_iff_ne.mpr h, if_neg h]; rfl

/-- An expert's weighted part is nothing where it is not one of the two: its weight is then zero. -/
theorem part_eq (e : Fin 4) (d : EReal) :
    Scalar.select (IntOp.cmpi .slt (rank (exceeds l) e) 2#32) (d * weight l e) 0 = d * weight l e := by
  unfold Scalar.select
  by_cases h : first l = e ∨ second l = e
  · rw [if_pos]; show BitVec.ofBool ((rank (exceeds l) e).slt 2#32) = 1
    rw [(rank_two l e).mpr h]; rfl
  · rw [weight_zero l h, mul_zero]; split <;> rfl

end Cert.Routing
-- ==== Proof.KernelIdealRouting.lean ====
module

public import proofs.«01_k».proof.Proof.KernelIdealValue
public import proofs.«01_k».proof.Proof.Routing

@[expose] public noncomputable section

set_option maxRecDepth 16384

/-! # The kernel's routing weights -/

namespace Cert.KernelIdeal.Hand
open Idealize.ShloMosaic Cert.KernelIdeal Cert.KernelIdeal.Gen Cert.Quant Cert.Routing

section Terms
variable (L : FVec Ideal S64x4 .f32) (i : Fin 64)

/-- A row's four logits. -/
def row (e : Fin 4) : EReal := L (ix2 i e)
/-- The first logit of each row. -/
def col0 : FVec Ideal S64x1 .f32 := extractStridedSlice S64x1 ![0, 0] L slices_S64x4_o0_0_S64x1

/-- One logit is at most another exactly when it does not exceed it. -/
theorem le_eq (l : Fin 4 → EReal) (a b : Fin 4) : decide (l a ≤ l b) = !exceeds l a b := by
  unfold exceeds
  by_cases h : l b < l a
  · rw [decide_eq_true h, decide_eq_false (not_le.mpr h)]; rfl
  · rw [decide_eq_false h, decide_eq_true (not_lt.mp h)]; rfl

/-- The rank the kernel counts for expert 0. -/
theorem pay16_at : k0_pay16 L (col0 L) (ix2 i 0) = rank (exceeds (row L i)) 0 := by
  pointwise [k0_pay16, k0_pay13, k0_pay14, k0_pay15, col0]
  rfl
/-- The rank the kernel counts for expert 1. -/
theorem pay17_at : k0_pay17 L (col0 L) (ix2 i 0) = rank (exceeds (row L i)) 1 := by
  pointwise [k0_pay17, k0_pay13, k0_pay14, k0_pay15, col0]
  rw [show decide (L (ix2 i 1) ≤ L (ix2 i 0)) = _ from le_eq (row L i) 1 0]
  rfl
/-- The rank the kernel counts for expert 2. -/
theorem pay18_at : k0_pay18 L (col0 L) (ix2 i 0) = rank (exceeds (row L i)) 2 := by
  pointwise [k0_pay18, k0_pay13, k0_pay14, k0_pay15, col0]
  rw [show decide (L (ix2 i 2) ≤ L (ix2 i 0)) = _ from le_eq (row L i) 2 0, show decide (L (ix2 i 2) ≤ L (ix2 i 1)) = _ from le_eq (row L i) 2 1]
  rfl
/-- The rank the kernel counts for expert 3. -/
theorem pay19_at : k0_pay19 L (col0 L) (ix2 i 0) = rank (exceeds (row L i)) 3 := by
  pointwise [k0_pay19, k0_pay13, k0_pay14, k0_pay15, col0]
  rw [show decide (L (ix2 i 3) ≤ L (ix2 i 0)) = _ from le_eq (row L i) 3 0, show decide (L (ix2 i 3) ≤ L (ix2 i 1)) = _ from le_eq (row L i) 3 1,
    show decide (L (ix2 i 3) ≤ L (ix2 i 2)) = _ from le_eq (row L i) 3 2]
  rfl

/-- The ranks, the greatest logit, the exponentials and their sum, as the run names them. -/
def rk0 : IVec S64x1 32 := k0_pay16 L (col0 L)
/-- The rank of expert 1. -/
def rk1 : IVec S64x1 32 := k0_pay17 L (col0 L)
/-- The rank of expert 2. -/
def rk2 : IVec S64x1 32 := k0_pay18 L (col0 L)
/-- The rank of expert 3. -/
def rk3 : IVec S64x1 32 := k0_pay19 L (col0 L)
/-- The greatest logit. -/
def top : FVec Ideal S64x1 .f32 := k0_pay22 (k0_pay14 L) (k0_pay15 L) (rk2 L) (rk3 L) (k0_pay20 L (col0 L)) (k0_pay21 L (col0 L)) 0#32
/-- The exponential of the greatest logit, less itself. -/
def e0 : FVec Ideal S64x1 .f32 := k0_pay23 (k0_pay14 L) (k0_pay15 L) (rk2 L) (rk3 L) (k0_pay20 L (col0 L)) (k0_pay21 L (col0 L)) 0#32
/-- The exponential of the second logit, less the greatest. -/
def e1 : FVec Ideal S64x1 .f32 := k0_pay24 (col0 L) (k0_pay13 L) (k0_pay14 L) (k0_pay15 L) (rk0 L) (rk1 L) (rk2 L) (rk3 L) (k0_pay20 L (col0 L)) (k0_pay21 L (col0 L)) 0#32
/-- The sum of the two exponentials. -/
def eS : FVec Ideal S64x1 .f32 := k0_pay25 (col0 L) (k0_pay13 L) (k0_pay14 L) (k0_pay15 L) (rk0 L) (rk1 L) (rk2 L) (rk3 L) (k0_pay20 L (col0 L)) (k0_pay21 L (col0 L)) 0#32

/-- The greatest logit is the first choice's. -/
theorem top_at : top L (ix2 i 0) = row L i (first (row L i)) := by
  have h0 : k0_pay16 L (col0 L) (ix2 i 0) = _ := pay16_at L i
  have h1 : k0_pay17 L (col0 L) (ix2 i 0) = _ := pay17_at L i
  have h2 : rk2 L (ix2 i 0) = _ := pay18_at L i
  have h3 : rk3 L (ix2 i 0) = _ := pay19_at L i
  have hc : col0 L (ix2 i 0) = L (ix2 i 0) := by pointwise [col0]
  pointwise [top, k0_pay22, k0_pay20, k0_pay21, k0_pay13, k0_pay14, k0_pay15]
  rw [h0, h1, h2, h3, hc]
  simp only [select_eq, rank_zero]
  rw [show Ideal.ofBits FTy.f32 4286578688#32 = ⊥ from cBot]
  exact max_pick (row L i) (first (row L i))

/-- The greatest logit of rank 1 is the second choice's. -/
theorem next_at : max (max (max (Scalar.select (IntOp.cmpi CmpIPredicate.eq (rk0 L (ix2 i 0)) 1#32) (L (ix2 i 0)) (Ideal.ofBits FTy.f32 4286578688#32))
              (Scalar.select (IntOp.cmpi CmpIPredicate.eq (rk1 L (ix2 i 0)) 1#32) (L (ix2 i 1)) (Ideal.ofBits FTy.f32 4286578688#32)))
            (Scalar.select (IntOp.cmpi CmpIPredicate.eq (rk2 L (ix2 i 0)) 1#32) (L (ix2 i 2)) (Ideal.ofBits FTy.f32 4286578688#32)))
          (Scalar.select (IntOp.cmpi CmpIPredicate.eq (rk3 L (ix2 i 0)) 1#32) (L (ix2 i 3)) (Ideal.ofBits FTy.f32 4286578688#32))
      = row L i (second (row L i)) := by
  have h0 : rk0 L (ix2 i 0) = _ := pay16_at L i
  have h1 : rk1 L (ix2 i 0) = _ := pay17_at L i
  have h2 : rk2 L (ix2 i 0) = _ := pay18_at L i
  have h3 : rk3 L (ix2 i 0) = _ := pay19_at L i
  rw [h0, h1, h2, h3]
  simp only [select_eq, rank_one]
  rw [show Ideal.ofBits FTy.f32 4286578688#32 = ⊥ from cBot]
  exact max_pick (row L i) (second (row L i))
/-- The first choice's exponential. -/
theorem e0_at : e0 L (ix2 i 0) = Ideal.exp (row L i (first (row L i)) - row L i (first (row L i))) := by
  show Ideal.exp (top L (ix2 i 0) - top L (ix2 i 0)) = _
  rw [top_at]
/-- The second choice's exponential. -/
theorem e1_at : e1 L (ix2 i 0) = Ideal.exp (row L i (second (row L i)) - row L i (first (row L i))) := by
  have hc : col0 L (ix2 i 0) = L (ix2 i 0) := by pointwise [col0]
  have h2 : k0_pay14 L (ix2 i 0) = L (ix2 i 2) := by pointwise [k0_pay14]
  have h3 : k0_pay15 L (ix2 i 0) = L (ix2 i 3) := by pointwise [k0_pay15]
  have ht := top_at L i
  unfold top at ht
  pointwise [e1, k0_pay24, k0_pay13]
  rw [ht, hc, h2, h3, next_at]
/-- The sum of the two exponentials. -/
theorem eS_at : eS L (ix2 i 0) = Ideal.exp (row L i (first (row L i)) - row L i (first (row L i))) + Ideal.exp (row L i (second (row L i)) - row L i (first (row L i))) := by
  show e0 L (ix2 i 0) + e1 L (ix2 i 0) = _
  rw [e0_at, e1_at]

/-- The weight's two choices. -/
theorem weight_at (r : BitVec 32) (e : Fin 4) (hr : r = rank (exceeds (row L i)) e) :
    Scalar.select (IntOp.cmpi CmpIPredicate.eq r 1#32) (Ideal.div (e1 L (ix2 i 0)) (eS L (ix2 i 0)))
      (Scalar.select (IntOp.cmpi CmpIPredicate.eq r 0#32) (Ideal.div (e0 L (ix2 i 0)) (eS L (ix2 i 0))) 0)
      = weight (row L i) e := by
  rw [e0_at, e1_at, eS_at, hr]
  simp only [select_eq, rank_one, rank_zero]
  rfl
/-- The gate the kernel finds for expert 0 is its weight. -/
theorem w0_at : k0_pay26 (col0 L) (k0_pay13 L) (k0_pay14 L) (k0_pay15 L) (rk0 L) (rk1 L) (rk2 L) (rk3 L) (k0_pay20 L (col0 L)) (k0_pay21 L (col0 L)) 0#32 (ix2 i 0)
    = weight (row L i) 0 := by
  refine Eq.trans ?_ (weight_at L i (rk0 L (ix2 i 0)) 0 (pay16_at L i))
  pointwise [k0_pay26]
  rfl
/-- The gate the kernel finds for expert 1 is its weight. -/
theorem w1_at : k0_pay29 (rk1 L) (e0 L) (e1 L) (eS L) (ix2 i 0) = weight (row L i) 1 := by
  refine Eq.trans ?_ (weight_at L i (rk1 L (ix2 i 0)) 1 (pay17_at L i))
  pointwise [k0_pay29]
/-- The gate the kernel finds for expert 2 is its weight. -/
theorem w2_at : k0_pay31 (rk2 L) (e0 L) (e1 L) (eS L) (ix2 i 0) = weight (row L i) 2 := by
  refine Eq.trans ?_ (weight_at L i (rk2 L (ix2 i 0)) 2 (pay18_at L i))
  pointwise [k0_pay31]
/-- The gate the kernel finds for expert 3 is its weight. -/
theorem w3_at : k0_pay33 (rk3 L) (e0 L) (e1 L) (eS L) (ix2 i 0) = weight (row L i) 3 := by
  refine Eq.trans ?_ (weight_at L i (rk3 L (ix2 i 0)) 3 (pay19_at L i))
  pointwise [k0_pay33]
/-- The kernel selects expert 0 when its rank is below 2. -/
theorem m0_at : k0_pay28 (rk0 L) k0_pay27 (ix2 i 0) = IntOp.cmpi .slt (rank (exceeds (row L i)) 0) 2#32 :=
  congrArg (IntOp.cmpi .slt · 2#32) (pay16_at L i)
/-- The kernel selects expert 1 when its rank is below 2. -/
theorem m1_at : k0_pay30 (rk1 L) (ix2 i 0) = IntOp.cmpi .slt (rank (exceeds (row L i)) 1) 2#32 :=
  congrArg (IntOp.cmpi .slt · 2#32) (pay17_at L i)
/-- The kernel selects expert 2 when its rank is below 2. -/
theorem m2_at : k0_pay32 (rk2 L) (ix2 i 0) = IntOp.cmpi .slt (rank (exceeds (row L i)) 2) 2#32 :=
  congrArg (IntOp.cmpi .slt · 2#32) (pay18_at L i)
/-- The kernel selects expert 3 when its rank is below 2. -/
theorem m3_at : k0_pay34 (rk3 L) (ix2 i 0) = IntOp.cmpi .slt (rank (exceeds (row L i)) 3) 2#32 :=
  congrArg (IntOp.cmpi .slt · 2#32) (pay19_at L i)

/-- A part under the run's weight and flag. -/
theorem partAt_eq (w : FVec Ideal S64x1 .f32) (m : IVec S64x1 1) (s : FVec Ideal S64x1 .f32) (q : FVec Ideal S64x1408 .fp8e4m3)
    (dn : Vec Ideal S4x1408x2048 .fp8e4m3) (dns : Vec Ideal S4x2048 .f32) (e : Fin 4) (j : Fin 2048)
    (hw : w (ix2 i 0) = weight (row L i) e) (hm : m (ix2 i 0) = IntOp.cmpi .slt (rank (exceeds (row L i)) e) 2#32) :
    partAt w m s q dn dns e i j = downAt s q dn dns e i j * weight (row L i) e := by
  unfold partAt
  rw [hw, hm, part_eq]
end Terms

variable (c : Dev nD)
variable (fx : MBuf (F := Ideal) c bX) (fwr : MBuf (F := Ideal) c bWr) (fgu : MBuf (F := Ideal) c bGu) (fgus : MBuf (F := Ideal) c bGus)
  (fdn : MBuf (F := Ideal) c bDn) (fdns : MBuf (F := Ideal) c bDns)
variable (g0 : MBuf (F := Ideal) c s0) (g1 : MBuf (F := Ideal) c s1)

/-- The logits. -/
def logits : FVec Ideal S64x4 .f32 := k0_pay11 (k0_pay1 (fx : Vec Ideal S64x2048 .bf16)) (fwr : Vec Ideal S4x2048 .f32)
/-- The logits in the run. -/
theorem r_5_eq : kernelRun.sl.r_5 c fx fwr g0 g1 = logits c fx fwr := by
  unfold kernelRun.sl.r_5 logits; rw [r_eq]; exact congrArg _ (read_wr c fwr g1)
/-- The first column of the logits in the run. -/
theorem r_6_eq : kernelRun.sl.r_6 c fx fwr g0 g1 = col0 (logits c fx fwr) := by
  rw [← r_5_eq c fx fwr g0 g1]; rfl

/-- The result's value at a row and a column. -/
def outAt (i : Fin 64) (j : Fin 2048) : EReal :=
  downAt (hScale (H c fx fgu fgus 0)) (hCodes (H c fx fgu fgus 0)) fdn fdns 0 i j * weight (row (logits c fx fwr) i) 0
  + downAt (hScale (H c fx fgu fgus 1)) (hCodes (H c fx fgu fgus 1)) fdn fdns 1 i j * weight (row (logits c fx fwr) i) 1
  + downAt (hScale (H c fx fgu fgus 2)) (hCodes (H c fx fgu fgus 2)) fdn fdns 2 i j * weight (row (logits c fx fwr) i) 2
  + downAt (hScale (H c fx fgu fgus 3)) (hCodes (H c fx fgu fgus 3)) fdn fdns 3 i j * weight (row (logits c fx fwr) i) 3

/-- The four experts' parts, summed in order, are their down products by their weights. -/
theorem parts_eq (i : Fin 64) (j : Fin 2048) :
    part0 c fx fwr fgu fgus fdn fdns g0 g1 i j + part1 c fx fwr fgu fgus fdn fdns g0 g1 i j + part2 c fx fwr fgu fgus fdn fdns g0 g1 i j
      + part3 c fx fwr fgu fgus fdn fdns g0 g1 i j = outAt c fx fwr fgu fgus fdn fdns i j := by
  unfold part0 part1 part2 part3 outAt
  rw [partAt_eq (logits c fx fwr) i (kernelRun.sl.r_19 c fx fwr g0 g1) (kernelRun.sl.r_20 c fx fwr g0 g1) _ _ _ _ 0 j ?_ ?_,
    partAt_eq (logits c fx fwr) i (kernelRun.sl.r_21 c fx fwr g0 g1) (kernelRun.sl.r_22 c fx fwr g0 g1) _ _ _ _ 1 j ?_ ?_,
    partAt_eq (logits c fx fwr) i (kernelRun.sl.r_23 c fx fwr g0 g1) (kernelRun.sl.r_24 c fx fwr g0 g1) _ _ _ _ 2 j ?_ ?_,
    partAt_eq (logits c fx fwr) i (kernelRun.sl.r_25 c fx fwr g0 g1) (kernelRun.sl.r_26 c fx fwr g0 g1) _ _ _ _ 3 j ?_ ?_]
  · rw [← w3_at, ← r_5_eq c fx fwr g0 g1]; unfold rk3 e0 e1 eS; rw [r_5_eq, ← r_6_eq c fx fwr g0 g1, ← r_5_eq c fx fwr g0 g1]; rfl
  · rw [← m3_at]; unfold rk3; rw [← r_6_eq c fx fwr g0 g1, ← r_5_eq c fx fwr g0 g1]; rfl
  · rw [← w2_at]; unfold rk2 e0 e1 eS; rw [← r_6_eq c fx fwr g0 g1, ← r_5_eq c fx fwr g0 g1]; rfl
  · rw [← m2_at]; unfold rk2; rw [← r_6_eq c fx fwr g0 g1, ← r_5_eq c fx fwr g0 g1]; rfl
  · rw [← w1_at]; unfold rk1 e0 e1 eS; rw [← r_6_eq c fx fwr g0 g1, ← r_5_eq c fx fwr g0 g1]; rfl
  · rw [← m1_at]; unfold rk1; rw [← r_6_eq c fx fwr g0 g1, ← r_5_eq c fx fwr g0 g1]; rfl
  · rw [← w0_at]; unfold rk0; rw [← r_6_eq c fx fwr g0 g1, ← r_5_eq c fx fwr g0 g1]; rfl
  · rw [← m0_at]; unfold rk0; rw [← r_6_eq c fx fwr g0 g1, ← r_5_eq c fx fwr g0 g1]; rfl
end Cert.KernelIdeal.Hand
-- ==== Proof.ReferenceRouting.lean ====
module

public import proofs.«01_k».proof.Proof.ReferenceExperts
public import proofs.«01_k».proof.Proof.KernelIdealRouting
public import proofs.«01_k».proof.Proof.Gen.ReferenceIdeal.Value
public import Idealize.ShloMosaic.Lib.StableHlo.ReadAt
public import Idealize.ShloMosaic.Lib.Claim

@[expose] public noncomputable section

set_option maxRecDepth 16384

/-! # The reference's routing weights -/

namespace Cert.ReferenceIdeal.Hand
open Idealize.ShloMosaic Idealize.ShloMosaic.TcCoe Cert.ReferenceIdeal Cert.ReferenceIdeal.Gen Cert.Quant Cert.Routing
open Cert.KernelIdeal.Hand (row)

section Host
variable (x : Vec Ideal S64x2048 .bf16) (w : FVec Ideal S2048x4 .f32)
/-- The router's logits. -/
def refLogits : FVec Ideal S64x4 .f32 := Host.dotGeneral dot_S64x2048_S2048x4_S64x4_1_0_0_1_n_n none (extf .f32 x bitsLt_bf16_f32) w
variable (L : FVec Ideal S64x4 .f32)
/-- The two greatest logits of each row, and the experts they belong to. -/
def vals : FVec Ideal S64x2 .f32 := (Host.topK S64x2 1 (FloatOps.cmpfTotal .gt) L sliceFits_S64x4_S64x2).1
/-- The two greatest logits' places. -/
def inds : IVec S64x2 32 := (Host.topK S64x2 1 (FloatOps.cmpfTotal .gt) L sliceFits_S64x4_S64x2).2
variable (v : FVec Ideal S64x2 .f32) (n : IVec S64x2 32)
/-- The exponentials of the two logits over the greatest. -/
def expo : FVec Ideal S64x2 .f32 :=
  Host.exp (subf v (broadcastInDim S64x2 ![0, 1] bcast_S64x1_S64x2_0_1 (broadcastInDim S64x1 ![0] bcast_S64_S64x1_0
    (maximumf (broadcastInDim S64 ![] bcast_S_S64 (constant S_ .f32 0xFF800000#32)) (Host.reduce FloatOps.maximumf v (constant S_ .f32 0xFF800000#32) reducesTo_S64x2_S64_d1 h_S_)))))
/-- The two gates. -/
def gates : FVec Ideal S64x2 .f32 :=
  Host.divf (expo v) (broadcastInDim S64x2 ![0, 1] bcast_S64x1_S64x2_0_1 (broadcastInDim S64x1 ![0] bcast_S64_S64x1_0
    (Host.reduceAdd (expo v) (constant S_ .f32 0x00000000#32) reducesTo_S64x2_S64_d1 h_S_)))
/-- Each expert's weight: the gates of the choices that name it, added. -/
def weights : FVec Ideal S64x4 .f32 :=
  Host.reduceAdd (select (cmpi .eq (broadcastInDim S64x2x4 ![0, 1, 2] bcast_S64x2x1_S64x2x4_0_1_2 (broadcastInDim S64x2x1 ![0, 1] bcast_S64x2_S64x2x1_0_1 n))
      (broadcastInDim S64x2x4 ![0, 1, 2] bcast_S1x1x4_S64x2x4_0_1_2 (broadcastInDim S1x1x4 ![2] bcast_S4_S1x1x4_2 (iotaInDim S4 32 0))))
    (broadcastInDim S64x2x4 ![0, 1, 2] bcast_S64x2x1_S64x2x4_0_1_2 (broadcastInDim S64x2x1 ![0, 1] bcast_S64x2_S64x2x1_0_1 v))
    (broadcastInDim S64x2x4 ![] bcast_S_S64x2x4 (constant S_ .f32 0x00000000#32))) (constant S_ .f32 0x00000000#32) reducesTo_S64x2x4_S64x4_d1 h_S_

/-- A logit is the dot product of a row of `x` with a column of the router's weights. -/
theorem logits_at (i : Fin 64) (e : Fin 4) : refLogits x w (ix2 i e) = ∑ k : Fin 2048, x (ix2 i k) * w (ix2 k e) := by
  pointwise [refLogits]
/-- An index moved along the experts. -/
theorem along_one (i : Fin 64) (a : Fin 4) (k : Fin 4) : (ix2 i a : S64x4.Idx).along 1 k = ix2 i k := by
  funext d
  match d with
  | ⟨0, _⟩ => rfl
  | ⟨1, _⟩ => rfl
/-- The sort's comparison is which logit exceeds which. -/
theorem before_eq (i : Fin 64) (a : Fin 4) : (fun k k' : Fin 4 => FloatOps.cmpfTotal (F := Ideal) .gt (L ((ix2 i a : S64x4.Idx).along 1 k)) (L ((ix2 i a : S64x4.Idx).along 1 k')) == 1#1)
    = exceeds (row L i) := by
  funext k k'
  rw [along_one, along_one]
  show (BitVec.ofBool (decide (L (ix2 i k) > L (ix2 i k'))) == 1#1) = decide (L (ix2 i k') < L (ix2 i k))
  by_cases h : L (ix2 i k') < L (ix2 i k)
  · rw [decide_eq_true h]; rfl
  · rw [decide_eq_false h]; rfl
/-- The two values of a row are its first two logits in the sort. -/
theorem vals_at (i : Fin 64) (e : Fin 2) : vals L (ix2 i e) = row L i (sortedFrom (exceeds (row L i)) ⟨e.val, by omega⟩) := by
  pointwise [vals, Host.topK, Host.sort2]
  rw [before_eq, along_one]; rfl
/-- The two indices of a row are the experts of its first two logits in the sort. -/
theorem inds_at (i : Fin 64) (e : Fin 2) : inds L (ix2 i e) = BitVec.ofNat 32 (sortedFrom (exceeds (row L i)) ⟨e.val, by omega⟩).val := by
  pointwise [inds, Host.topK, Host.sort2]
  rw [before_eq, along_one]; rfl
/-- The exponentials, at one entry. -/
theorem expo_at (i : Fin 64) (e : Fin 2) : expo v (ix2 i e) = Ideal.exp (v (ix2 i e) - max (v (ix2 i 0)) (v (ix2 i 1))) := by
  pointwise [expo]
  rw [cBot, Fin.univ_succ]
  simp
/-- The softmax of the two logits, at one entry. -/
theorem gates_at (i : Fin 64) (e : Fin 2) : gates v (ix2 i e) = Ideal.div (expo v (ix2 i e)) (expo v (ix2 i 0) + expo v (ix2 i 1)) := by
  pointwise [gates]
  rw [Fin.sum_univ_two]
/-- An expert's weight, at one entry. -/
theorem weights_at (i : Fin 64) (e : Fin 4) : weights v n (ix2 i e) =
    (if n (ix2 i 0) = BitVec.ofNat 32 e.val then v (ix2 i 0) else 0) + (if n (ix2 i 1) = BitVec.ofNat 32 e.val then v (ix2 i 1) else 0) := by
  pointwise [weights]
  rw [Fin.sum_univ_two, select_eq, select_eq]
/-- Two experts' words are equal exactly when the experts are. -/
theorem word_inj : ∀ a b : Fin 4, BitVec.ofNat 32 a.val = BitVec.ofNat 32 b.val ↔ a = b := by decide
/-- The weights the reference adds up are the routing weights. -/
theorem weight_at (i : Fin 64) (e : Fin 4) : weights (gates (vals L)) (inds L) (ix2 i e) = weight (row L i) e := by
  have hv0 : vals L (ix2 i 0) = row L i (first (row L i)) := vals_at L i 0
  have hv1 : vals L (ix2 i 1) = row L i (second (row L i)) := vals_at L i 1
  have hn0 : inds L (ix2 i 0) = BitVec.ofNat 32 (first (row L i)).val := inds_at L i 0
  have hn1 : inds L (ix2 i 1) = BitVec.ofNat 32 (second (row L i)).val := inds_at L i 1
  rw [weights_at, gates_at, gates_at, expo_at, expo_at, hv0, hv1, hn0, hn1, max_eq_left (second_le_first (row L i))]
  simp only [word_inj]
  unfold weight
  by_cases h1 : second (row L i) = e
  · rw [if_pos h1, if_pos h1, if_neg fun h0 => first_ne_second (row L i) (h0.trans h1.symm), zero_add]; rfl
  · rw [if_neg h1, if_neg h1, add_zero]; rfl
end Host

variable (m : (ℓ : Loc nD τ sig) → Buf (Elt Ideal) ℓ) (c : Dev nD)

/-- The tokens the launch finds. -/
theorem v0_V : (V m c main_v0 : Vec Ideal S64x2048 .bf16) = shapeCast S64x2048 (m ((c : Thread nD τ).loc main_arg0)) shapeCasts_S64x1x2048_S64x2048 := by
  unfold V
  after_reads_simp
  rfl
/-- The weights the launch finds. -/
theorem weight_V : (V m c main_v22 : Vec Ideal S64x4 .f32) =
    weights (gates (vals (refLogits (V m c main_v0) (m ((c : Thread nD τ).loc main_arg1))))) (inds (refLogits (V m c main_v0) (m ((c : Thread nD τ).loc main_arg1)))) := by
  rw [v0_V]
  unfold V
  after_reads_simp
  rfl

end Cert.ReferenceIdeal.Hand
-- ==== Proof.ReferenceValue.lean ====
module

public import proofs.«01_k».proof.Proof.ReferenceRouting
public import Idealize.ShloMosaic.Lib.Pipeline.ValueKit

@[expose] public noncomputable section

set_option maxRecDepth 16384

/-! # The reference's result -/

namespace Cert.ReferenceIdeal.Hand
open Idealize.ShloMosaic Idealize.ShloMosaic.TcCoe Cert.ReferenceIdeal Cert.ReferenceIdeal.Gen Cert.Quant Cert.Routing
open Idealize.SL.Sem

variable (m : (ℓ : Loc nD τ sig) → Buf (Elt Ideal) ℓ) (c : Dev nD)

/-! ### Each window's one block is its whole array -/

/-- Window 0 is the whole array at every step. -/
theorem idx0 : ∀ t : Fin cfg0.N, win0_0.index t = ![0, 0] := (by decide +kernel : ∀ t : Fin grid0.N, win0_0.index t = ![0, 0])
/-- The block of window 0 is its whole array. -/
theorem blk0 (t : Fin cfg0.N) : iblk m c 0 t = (V m c main_v0 : Vec Ideal S64x2048 .bf16) := by
  funext y; blk_ext [iblk, idx0]
/-- Window 1 is the whole array at every step. -/
theorem idx1 : ∀ t : Fin cfg0.N, win0_1.index t = ![0, 0] := (by decide +kernel : ∀ t : Fin grid0.N, win0_1.index t = ![0, 0])
/-- The block of window 1 is its whole array. -/
theorem blk1 (t : Fin cfg0.N) : iblk m c 1 t = (V m c main_v22 : Vec Ideal S64x4 .f32) := by
  funext y; blk_ext [iblk, idx1]
/-- Window 2 is the whole array at every step. -/
theorem idx2 : ∀ t : Fin cfg0.N, win0_2.index t = ![0, 0, 0] := (by decide +kernel : ∀ t : Fin grid0.N, win0_2.index t = ![0, 0, 0])
/-- The block of window 2 is its whole array. -/
theorem blk2 (t : Fin cfg0.N) : iblk m c 2 t = (V m c main_arg2 : Vec Ideal S4x2048x2816 .fp8e4m3) := by
  funext y; blk_ext [iblk, idx2]
/-- Window 3 is the whole array at every step. -/
theorem idx3 : ∀ t : Fin cfg0.N, win0_3.index t = ![0, 0] := (by decide +kernel : ∀ t : Fin grid0.N, win0_3.index t = ![0, 0])
/-- The block of window 3 is its whole array. -/
theorem blk3 (t : Fin cfg0.N) : iblk m c 3 t = (V m c main_arg3 : Vec Ideal S4x2816 .f32) := by
  funext y; blk_ext [iblk, idx3]
/-- Window 4 is the whole array at every step. -/
theorem idx4 : ∀ t : Fin cfg0.N, win0_4.index t = ![0, 0, 0] := (by decide +kernel : ∀ t : Fin grid0.N, win0_4.index t = ![0, 0, 0])
/-- The block of window 4 is its whole array. -/
theorem blk4 (t : Fin cfg0.N) : iblk m c 4 t = (V m c main_arg4 : Vec Ideal S4x1408x2048 .fp8e4m3) := by
  funext y; blk_ext [iblk, idx4]
/-- Window 5 is the whole array at every step. -/
theorem idx5 : ∀ t : Fin cfg0.N, win0_5.index t = ![0, 0] := (by decide +kernel : ∀ t : Fin grid0.N, win0_5.index t = ![0, 0])
/-- The block of window 5 is its whole array. -/
theorem blk5 (t : Fin cfg0.N) : iblk m c 5 t = (V m c main_arg5 : Vec Ideal S4x2048 .f32) := by
  funext y; blk_ext [iblk, idx5]

/-- The reference's result array after the run. -/
theorem arr_eq : (dats m 0 c).arrAt 6 cfg0.N =
    total (V m c main_v0) (V m c main_v22) (V m c main_arg2) (V m c main_arg3) (V m c main_arg4) (V m c main_arg5) := by
  refine (dats m 0 c).arrAt_eq_of_after_last 6 t0_0 (by decide +kernel) _ fun j => ?_
  blk_simp
  rw [after0_6, out_eq, blk0, blk1, blk2, blk3, blk4, blk5]

end Cert.ReferenceIdeal.Hand
-- ==== Proof.KernelIdealLaunch.lean ====
module

public import proofs.«01_k».proof.Proof.KernelIdealFrame
public import proofs.«01_k».proof.Proof.KernelIdealRouting
public import Idealize.ShloMosaic.Lib.Pipeline.FrameValue

@[expose] public section

set_option maxRecDepth 16384

noncomputable section

/-! # The kernel's run, the result named

The launch of `KernelIdealFrame` over again, with the result's buffer at the contents the body
gives it. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The proof's user algebra: the pipeline library's beside the transfers' counters. -/
local notation "𝕄" => MT nD τ sig Unit (Elt Ideal) ℕ (Pipeline.UD sig nD τ) ℕ

/-! ### The two halves the body copies out are the whole result -/

section Halves
variable (O : Vec Ideal S64x2048 .bf16) (l r : Vec Ideal S64x1024 .bf16)

/-- The left half is the result at the columns it is copied to. -/
theorem left_piece (h : ∀ (i : Fin 64) (j : Fin 1024) (J : Fin 2048), J.val = 0 + j.val → l (ix2 i j) = O (ix2 i J)) (x : S64x1024.Idx) :
    l x = O ((Rect.unit (s := S64x2048) ![0, 0] S64x1024.size inb_S64x2048_S64x1024_0_0).emb x) := by
  have h' := h (x 0) (x 1) ⟨0 + (x 1).val, by have : (x 1).val < 1024 := (x 1).isLt; omega⟩ rfl
  rw [← eq_ix2 x] at h'
  refine h'.trans (congrArg O ?_)
  funext a; apply Fin.ext
  match a with
  | ⟨0, _⟩ => show (x 0).val = 0 + 1 * (x 0).val; omega
  | ⟨1, _⟩ => show 0 + (x 1).val = 0 + 1 * (x 1).val; omega
/-- The right half is the result at the columns it is copied to. -/
theorem right_piece (h : ∀ (i : Fin 64) (j : Fin 1024) (J : Fin 2048), J.val = 1024 + j.val → r (ix2 i j) = O (ix2 i J)) (x : S64x1024.Idx) :
    r x = O ((Rect.unit (s := S64x2048) ![0, 1024] S64x1024.size inb_S64x2048_S64x1024_0_1024).emb x) := by
  have h' := h (x 0) (x 1) ⟨1024 + (x 1).val, by have : (x 1).val < 1024 := (x 1).isLt; omega⟩ rfl
  rw [← eq_ix2 x] at h'
  refine h'.trans (congrArg O ?_)
  funext a; apply Fin.ext
  match a with
  | ⟨0, _⟩ => show (x 0).val = 0 + 1 * (x 0).val; omega
  | ⟨1, _⟩ => show 1024 + (x 1).val = 1024 + 1 * (x 1).val; omega

/-- The two halves, written over any contents of the result's buffer, make up the whole result. -/
theorem halves (c : Dev nD) (fy : MBuf (F := Ideal) c bY)
    (hl : ∀ (i : Fin 64) (j : Fin 1024) (J : Fin 2048), J.val = 0 + j.val → l (ix2 i j) = O (ix2 i J))
    (hr : ∀ (i : Fin 64) (j : Fin 1024) (J : Fin 2048), J.val = 1024 + j.val → r (ix2 i j) = O (ix2 i J)) :
    bY.view.read (Elt Ideal) (bY.view.writes (Elt Ideal) fy
      [⟨Rect.unit (s := S64x2048) ![0, 1024] S64x1024.size inb_S64x2048_S64x1024_0_1024, r⟩,
       ⟨Rect.unit (s := S64x2048) ![0, 0] S64x1024.size inb_S64x2048_S64x1024_0_0, l⟩]) = O := by
  funext y
  refine View.read_writes_apply_of_pieces bY.view fy O _ (fun p hp => ?_) y ?_
  · simp only [List.mem_cons, List.not_mem_nil, or_false] at hp
    rcases hp with rfl | rfl
    · exact right_piece O r hr
    · exact left_piece O l hl
  · by_cases h : (y 1).val < 1024
    · refine ⟨⟨Rect.unit (s := S64x2048) ![0, 0] S64x1024.size inb_S64x2048_S64x1024_0_0, l⟩, .tail _ (.head _), (Rect.mem_set_unit (inb := inb_S64x2048_S64x1024_0_0)).mpr fun a => ?_⟩
      match a with
      | ⟨0, _⟩ => exact ⟨Nat.zero_le _, by show (y 0).val < 0 + 64; have : (y 0).val < 64 := (y 0).isLt; omega⟩
      | ⟨1, _⟩ => exact ⟨Nat.zero_le _, by show (y 1).val < 0 + 1024; omega⟩
    · refine ⟨⟨Rect.unit (s := S64x2048) ![0, 1024] S64x1024.size inb_S64x2048_S64x1024_0_1024, r⟩, .head _, (Rect.mem_set_unit (inb := inb_S64x2048_S64x1024_0_1024)).mpr fun a => ?_⟩
      match a with
      | ⟨0, _⟩ => exact ⟨Nat.zero_le _, by show (y 0).val < 0 + 64; have : (y 0).val < 64 := (y 0).isLt; omega⟩
      | ⟨1, _⟩ => exact ⟨by show 1024 ≤ (y 1).val; omega, by show (y 1).val < 1024 + 1024; have : (y 1).val < 2048 := (y 1).isLt; omega⟩
end Halves

section Out
variable (c : Dev nD)
variable (fx : MBuf (F := Ideal) c bX) (fwr : MBuf (F := Ideal) c bWr) (fgu : MBuf (F := Ideal) c bGu) (fgus : MBuf (F := Ideal) c bGus)
  (fdn : MBuf (F := Ideal) c bDn) (fdns : MBuf (F := Ideal) c bDns) (fy : MBuf (F := Ideal) c bY)
variable (g0 : MBuf (F := Ideal) c s0) (g1 : MBuf (F := Ideal) c s1) (g2 : MBuf (F := Ideal) c s2) (g3 : MBuf (F := Ideal) c s3)
  (g4 : MBuf (F := Ideal) c s4) (g5 : MBuf (F := Ideal) c s5) (g6 : MBuf (F := Ideal) c s6) (g7 : MBuf (F := Ideal) c s7)
  (g8 : MBuf (F := Ideal) c s8) (g9 : MBuf (F := Ideal) c s9)

/-- The result as a buffer. -/
def outV : Vec Ideal S64x2048 .bf16 := fun y => outAt c fx fwr fgu fgus fdn fdns (y 0) (y 1)

/-- The left half the body copies out is the stated result. -/
theorem left_out (i : Fin 64) (j : Fin 1024) (J : Fin 2048) (hJ : J.val = 0 + j.val) :
    kernelRun.sl.dma59 c fx fwr fgu fgus fdn fdns g0 g1 g2 g3 g5 g9 (ix2 i j) = outAt c fx fwr fgu fgus fdn fdns i J :=
  (left_at c fx fwr fgu fgus fdn fdns g0 g1 g2 g3 g5 g9 i j J hJ).trans (parts_eq c fx fwr fgu fgus fdn fdns g0 g1 i J)
/-- The right half the body copies out is the stated result. -/
theorem right_out (i : Fin 64) (j : Fin 1024) (J : Fin 2048) (hJ : J.val = 1024 + j.val) :
    kernelRun.sl.dma66 c fx fwr fgu fgus fdn fdns g0 g1 g2 g3 g5 g9 (ix2 i j) = outAt c fx fwr fgu fgus fdn fdns i J :=
  (right_at c fx fwr fgu fgus fdn fdns g0 g1 g2 g3 g5 g9 i j J hJ).trans (parts_eq c fx fwr fgu fgus fdn fdns g0 g1 i J)

/-- The run leaves the result's buffer at the result. -/
theorem run_out : bY.view.read (Elt Ideal) (kernelRun c fx fwr fgu fgus fdn fdns fy g0 g1 g2 g3 g4 g5 g6 g7 g8 g9).1 = outV c fx fwr fgu fgus fdn fdns := by
  refine Eq.trans ?_ (halves (outV c fx fwr fgu fgus fdn fdns) (kernelRun.sl.dma59 c fx fwr fgu fgus fdn fdns g0 g1 g2 g3 g5 g9)
    (kernelRun.sl.dma66 c fx fwr fgu fgus fdn fdns g0 g1 g2 g3 g5 g9) c fy
    (left_out c fx fwr fgu fgus fdn fdns g0 g1 g2 g3 g5 g9) (right_out c fx fwr fgu fgus fdn fdns g0 g1 g2 g3 g5 g9))
  refine congrArg (bY.view.read (Elt Ideal)) ?_
  unfold kernelRun
  dsimp only
end Out

variable (m : (ℓ : Loc nD τ sig) → Buf (Elt Ideal) ℓ) (ρ : Dev nD → PrngReg)

/-- The result of the run from the launch memory. -/
def result (c : Dev nD) : MBuf (F := Ideal) c bY :=
  outV c (V m c main_v0) (V m c main_v1) (V m c main_arg2) (V m c main_arg3) (V m c main_arg4) (V m c main_arg5)
/-- The contents after the region: the result's buffer at the result. -/
def G (c : Dev nD) (b : Ref sig .tc) : Buf (Elt Ideal) ((c.tc : Thread nD τ).loc b) := Function.update (V m c) main_v2 (result m c) b
/-- The result's buffer ends with the stated result. -/
theorem G_main_v2 (c : Dev nD) : G m c main_v2 = result m c := Function.update_self ..

/-- The result's buffer at named contents. -/
theorem routed0_eq (c : Dev nD) (W : (b : Ref sig .tc) → Buf (Elt Ideal) ((c.tc : Thread nD τ).loc b)) :
    (Pipeline.routed R0 c W : sProp 𝕄) = pt c bY (W main_v2) := by
  unfold Pipeline.routed; rw [BI.bigSep_eq_bigSepL_of_eq [main_v2] (by decide) (by decide)]; rfl

/-- The invariant between the region's points, conjunct by conjunct. -/
theorem PhiDRG0_eq (c : Dev nD) (W : (c : Dev nD) → (b : Ref sig .tc) → Buf (Elt Ideal) ((c.tc : Thread nD τ).loc b)) :
    (Pipeline.ΦDRG osem0 cfg0.spec H0 R0 (V m) W c : sProp 𝕄)
      = iprop(iprop((∃ f, pt c s0 f) ∗ (∃ f, pt c s1 f) ∗ (∃ f, pt c s2 f) ∗ (∃ f, pt c s3 f) ∗ (∃ f, pt c s4 f)
              ∗ (∃ f, pt c s5 f) ∗ (∃ f, pt c s6 f) ∗ (∃ f, pt c s7 f) ∗ (∃ f, pt c s8 f) ∗ (∃ f, pt c s9 f))
          ∗ (∃ r, prngReg c r)
          ∗ iprop(semVal ((c : Thread nD τ), SemLoc.dma 0) 0 ∗ semVal ((c : Thread nD τ), SemLoc.dma 1) 0
              ∗ semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0)
          ∗ iprop(pt c bX (V m c main_v0) ∗ pt c bWr (V m c main_v1) ∗ pt c bGu (V m c main_arg2)
              ∗ pt c bGus (V m c main_arg3) ∗ pt c bDn (V m c main_arg4) ∗ pt c bDns (V m c main_arg5))
          ∗ pt c bY (W c main_v2)) := by
  rw [Pipeline.ΦDRG_eq, scoped0_eq, ownSems00_eq, hbmPts0_eq, routed0_eq]

/-- The contents of the result's buffer at a point: as launched before the one step, the result after it. -/
def at_ (n : ℕ) : (c : Dev nD) → (b : Ref sig .tc) → Buf (Elt Ideal) ((c.tc : Thread nD τ).loc b) := if n = 0 then V m else G m

/-- The proof data of the one region: no window, the invariant above. -/
def vdats (_ : Fin 1) (c : Dev nD) : Dat τ (Elt Ideal) Unit ℕ (Pipeline.UD sig nD τ) ℕ cfg0 c where
  A w := w.elim0
  after w t := w.elim0
  Φ t := Pipeline.ΦDRG osem0 cfg0.spec H0 R0 (V m) (at_ m t.val) c
  q _ := fullShare
  owed _ := 0

/-- The region has no window, so there is no window's array to compare. -/
theorem vA_eq (c : Dev nD) (w : Fin (cfgs 0).W) : (vdats m 0 c).A w = V m c (Pipeline.arrRef (cfgs 0).spec w) := w.elim0

/-- What the body starts from. -/
def vbodyPre (c : Dev nD) (t : Fin cfg0.N) : sProp 𝕄 :=
  iprop((vdats m 0 c).Φ t.castSucc ∗ (vdats m 0 c).owesAt () t.castSucc ∗ BI.emp)
/-- What the body ends with, the result named. -/
def vbodyPost (c : Dev nD) (t : Fin cfg0.N) : sProp 𝕄 :=
  iprop((vdats m 0 c).Φ t.succ ∗ (vdats m 0 c).owesAt () t.succ ∗ BI.emp)

/-- The body takes the result's buffer from its launch contents to the result. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  have ht : t.val = 0 := by have h : t.val < 1 := t.isLt; omega
  unfold vbodyPre vbodyPost
  rw [show (vdats m 0 c).Φ t.succ = Pipeline.ΦDRG osem0 cfg0.spec H0 R0 (V m) (G m) c from rfl]
  rw [show (vdats m 0 c).Φ t.castSucc = Pipeline.ΦDRG osem0 cfg0.spec H0 R0 (V m) (at_ m t.val) c from rfl, ht]
  rw [show at_ m 0 = V m from rfl, PhiDRG0_eq, PhiDRG0_eq, G_main_v2]
  unfold Dat.owesAt Pipeline.owesWithin
  rw [show (vdats m 0 c).owed t.castSucc = 0 from rfl, show (vdats m 0 c).owed t.succ = 0 from rfl]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩⟩,
    Hg, ⟨Hq0, Hq1, Hq2, Hq3, Hq4, Hq5⟩, ⟨Hx, Hwr, Hgu, Hgus, Hdn, Hdns⟩, Hy⟩, ⟨%W, -, HW⟩, He⟩
  rw [show result m c = (kernelRun c (V m c main_v0) (V m c main_v1) (V m c main_arg2) (V m c main_arg3) (V m c main_arg4) (V m c main_arg5) (V m c main_v2)
    g0 g1 g2 g3 g4 g5 g6 g7 g8 g9).1 from
    (run_out c (V m c main_v0) (V m c main_v1) (V m c main_arg2) (V m c main_arg3) (V m c main_arg4) (V m c main_arg5) (V m c main_v2)
      g0 g1 g2 g3 g4 g5 g6 g7 g8 g9).symm]
  iapply ((kernelRun c (V m c main_v0) (V m c main_v1) (V m c main_arg2) (V m c main_arg3) (V m c main_arg4) (V m c main_arg5) (V m c main_v2)
    g0 g1 g2 g3 g4 g5 g6 g7 g8 g9).2 W _)
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hx]; · iexact Hx
  isplitl [Hwr]; · iexact Hwr
  isplitl [Hgu]; · iexact Hgu
  isplitl [Hgus]; · iexact Hgus
  isplitl [Hdn]; · iexact Hdn
  isplitl [Hdns]; · iexact Hdns
  isplitl [Hy]; · iexact Hy
  isplitl [HW]; · iexact HW
  iintro ⟨Hs0, Hs1, Hs2, Hs3, Hs4, Hs5, Hs6, Hs7, Hs8, Hs9, Hq0, Hq1, Hq2, Hq3, Hq4, Hq5, Hx, Hwr, Hgu, Hgus, Hdn, Hdns, Hy, ⟨%W', HW'⟩⟩
  isplitl [Hs0 Hs1 Hs2 Hs3 Hs4 Hs5 Hs6 Hs7 Hs8 Hs9 Hg Hq0 Hq1 Hq2 Hq3 Hq4 Hq5 Hx Hwr Hgu Hgus Hdn Hdns Hy]
  · isplitl [Hs0 Hs1 Hs2 Hs3 Hs4 Hs5 Hs6 Hs7 Hs8 Hs9]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hx Hwr Hgu Hgus Hdn Hdns]
    · isplitl [Hx]; · iexact Hx
      isplitl [Hwr]; · iexact Hwr
      isplitl [Hgu]; · iexact Hgu
      isplitl [Hgus]; · iexact Hgus
      isplitl [Hdn]; · iexact Hdn
      iexact Hdns
    iexact Hy
  isplitl [HW']
  · iexists W'; isplitr; · ipureintro; exact fun _ _ => Or.inl trivial
    iexact HW'
  iexact He

/-- The library's body obligation. -/
theorem vbody_obligation (c : Dev nD) : BodyObligation (vdats m 0 c) (defs₀ (F := Ideal)) Variants.none () Set.univ := fun t => by
  rw [bigSep_W0, bigSep_W0, defs₀_row]
  exact triple_restated (vsound_body m c t) rfl .rfl fun _ => .rfl

set_option backward.isDefEq.respectTransparency.types false in
set_option maxHeartbeats 800000 in
/-- The launch: @main runs to its end, the result's buffer at the result, every other buffer as the region found it. -/
theorem vrun_main : θ_run defs (onTc (τ := τ) (main (F := Ideal))) (s₀ m ρ) (Pipeline.FramePostRG cfgs (vdats m) 0 R0 (V m) (G m)) :=
  Pipeline.θ_run_frame_dmaRG (Q' := _) cfgs (vdats m) (0 : Fin 1) launch0 osem0 defs₀ Variants.none ownSemFacts0 H0 R0 H0_sub R0_sub m ρ main
    (hbody := fun c => (vbody_obligation m c).loose) (hshare := fun c => (vdats m 0 c).share_full fun _ => rfl)
    (howed := fun _ _ => rfl) (V := V m) (hmain := hmain m Variants.none) (hA := vA_eq m) (G := G m)
    (hin := fun _ => .rfl) (hout := fun _ => .rfl)

/-- THE VALUE: the program runs to its end with the result in its buffer and its six arguments unchanged. -/
theorem value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => fun c => ⟨(h.written c (b := main_v2) (by decide)).trans (G_main_v2 m c),
      ((h.toR c).2 main_arg0 (Finset.mem_sdiff.mpr ⟨Pipeline.mem_restRefs_of main_arg0 (by decide) (by decide), by decide⟩)).trans (V_main_arg0 m c),
      ((h.toR c).2 main_arg1 (Finset.mem_sdiff.mpr ⟨Pipeline.mem_restRefs_of main_arg1 (by decide) (by decide), by decide⟩)).trans (V_main_arg1 m c),
      ((h.toR c).2 main_arg2 (Finset.mem_sdiff.mpr ⟨Pipeline.mem_restRefs_of main_arg2 (by decide) (by decide), by decide⟩)).trans (V_main_arg2 m c),
      ((h.toR c).2 main_arg3 (Finset.mem_sdiff.mpr ⟨Pipeline.mem_restRefs_of main_arg3 (by decide) (by decide), by decide⟩)).trans (V_main_arg3 m c),
      ((h.toR c).2 main_arg4 (Finset.mem_sdiff.mpr ⟨Pipeline.mem_restRefs_of main_arg4 (by decide) (by decide), by decide⟩)).trans (V_main_arg4 m c),
      ((h.toR c).2 main_arg5 (Finset.mem_sdiff.mpr ⟨Pipeline.mem_restRefs_of main_arg5 (by decide) (by decide), by decide⟩)).trans (V_main_arg5 m c)⟩) (vrun_main m ρ)

end Cert.KernelIdeal.Hand

end
-- ==== Proof.Tie.lean ====
module

public import proofs.«01_k».proof.Proof.ReferenceValue
public import proofs.«01_k».proof.Proof.KernelIdealLaunch
public import Idealize.ShloMosaic.Lib.StableHlo.ReadAt

@[expose] public noncomputable section

set_option maxRecDepth 16384

/-! # The kernel's result and the reference's set side by side

The kernel's run ends with `result` in its buffer, the reference's with `total`; from equal
arguments the two are one array. -/

namespace Cert.KernelIdeal.Hand
open Idealize.ShloMosaic Idealize.ShloMosaic.TcCoe Cert.KernelIdeal Cert.KernelIdeal.Gen
variable (m : (ℓ : Loc nD τ sig) → Buf (Elt Ideal) ℓ) (c : Dev nD)

/-- The kernel finds the activations reshaped to a row per token. -/
theorem V_x : (V m c main_v0 : Vec Ideal S64x2048 .bf16) = shapeCast S64x2048 (m ((c : Thread nD τ).loc main_arg0)) shapeCasts_S64x1x2048_S64x2048 := by
  unfold V
  after_reads_simp
  rfl
/-- The kernel finds the router's weights transposed. -/
theorem V_wr : (V m c main_v1 : Vec Ideal S4x2048 .f32) = transpose S4x2048 [1, 0] (m ((c : Thread nD τ).loc main_arg1)) transposes_S2048x4_S4x2048_1_0 := by
  unfold V
  after_reads_simp
end Cert.KernelIdeal.Hand

namespace Cert.Tie
open Idealize.ShloMosaic Idealize.ShloMosaic.TcCoe Cert.Routing
open Idealize.SL.Sem
open Cert.ReferenceIdeal (S64x2048 S2048x4 S4x2048x2816 S4x2816 S4x1408x2048 S4x2048)
open Cert.ReferenceIdeal.Hand (refLogits logits_at total total_at weights gates vals inds weight_at v0_V weight_V arr_eq)
open Cert.KernelIdeal.Hand (outV outAt logits result V_x V_wr)

section Values
variable (x : Vec Ideal S64x2048 .bf16) (w : Vec Ideal S2048x4 .f32) (gu : Vec Ideal S4x2048x2816 .fp8e4m3) (gus : Vec Ideal S4x2816 .f32)
  (dn : Vec Ideal S4x1408x2048 .fp8e4m3) (dns : Vec Ideal S4x2048 .f32) (c : Dev Cert.KernelIdeal.nD)

/-- The router's weights with their axes exchanged, as the kernel is given them. -/
def wt : Vec Ideal Cert.KernelIdeal.S4x2048 .f32 := transpose Cert.KernelIdeal.S4x2048 [1, 0] w Cert.KernelIdeal.Gen.transposes_S2048x4_S4x2048_1_0

/-- The two programs find the same logits, at one entry. -/
theorem logits_at_eq (i : Fin 64) (e : Fin 4) : logits c x (wt w) (ix2 i e) = refLogits x w (ix2 i e) := by
  rw [logits_at]
  unfold logits wt
  pointwise [Cert.KernelIdeal.Gen.k0_pay11, Cert.KernelIdeal.Gen.k0_pay1]
/-- The kernel's logits, over the transposed router weights, are the reference's. -/
theorem logits_eq : logits c x (wt w) = refLogits x w := by
  funext y
  have h := logits_at_eq x w c (y 0) (y 1)
  rw [← eq_ix2 y] at h
  exact h

/-- The two programs find the same result, at one entry. -/
theorem total_at_eq (i : Fin 64) (j : Fin 2048) :
    total x (weights (gates (vals (refLogits x w))) (inds (refLogits x w))) gu gus dn dns (ix2 i j) = outAt c x (wt w) gu gus dn dns i j := by
  rw [total_at, weight_at, weight_at, weight_at, weight_at]
  unfold outAt
  rw [logits_eq]; rfl
/-- The reference's weighted sum over the experts is the kernel's result. -/
theorem total_eq : total x (weights (gates (vals (refLogits x w))) (inds (refLogits x w))) gu gus dn dns = outV c x (wt w) gu gus dn dns := by
  funext y
  have h := total_at_eq x w gu gus dn dns c (y 0) (y 1)
  rw [← eq_ix2 y] at h
  exact h
end Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments the reference's result array is the kernel's. -/
theorem results_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 Cert.ReferenceIdeal.cfg0.N = result m c := by
  rw [arr_eq, weight_V, v0_V, Cert.ReferenceIdeal.Gen.V_main_arg2, Cert.ReferenceIdeal.Gen.V_main_arg3, Cert.ReferenceIdeal.Gen.V_main_arg4, Cert.ReferenceIdeal.Gen.V_main_arg5]
  unfold result
  rw [V_x, V_wr, Cert.KernelIdeal.Gen.V_main_arg2, Cert.KernelIdeal.Gen.V_main_arg3, Cert.KernelIdeal.Gen.V_main_arg4, Cert.KernelIdeal.Gen.V_main_arg5]
  rw [h0, h1, h2, h3, h4, h5]
  exact total_eq _ _ _ _ _ _ c

end Cert.Tie
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.Tie
public import Idealize.ShloMosaic.Adequacy
public import Idealize.ShloMosaic.Init

@[expose] public section

noncomputable section

namespace Cert.Proof

open Idealize.ShloMosaic Idealize.SL.Sem Cert.Kernel

/-- Read at the ideal instance, the kernel and the reference end with equal results: both with the
    kernel's `result` of the arguments. -/
theorem algebraic : Cert.algebraic_KernelIdeal_ReferenceIdeal (hKernelIdeal := Cert.KernelIdeal.Gen.facts) (hReferenceIdeal := Cert.ReferenceIdeal.Gen.facts) :=
  fun m g m' g' _ hagree => ⟨Cert.KernelIdeal.Hand.result m, Cert.KernelIdeal.Hand.value m g,
    (θ_run _ _ _).mono (fun _ h c => ⟨(h c).1.trans (Cert.Tie.results_eq m m' c (hagree c).1 (hagree c).2.1 (hagree c).2.2.1 (hagree c).2.2.2.1
      (hagree c).2.2.2.2.1 (hagree c).2.2.2.2.2), (h c).2⟩) (Cert.ReferenceIdeal.Value.run_blocks m' g')⟩

/-- The five claims: the three frames, the idealization, and the equality of the results. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
